-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_d_is_no_nan [hPre_d_is_no_nan : Cert.Pre_d_is_no_nan.Facts] (m : (ℓ : Loc Cert.KernelIdeal.nD Cert.KernelIdeal.τ Cert.KernelIdeal.sig) → Buf (Elt Ideal) ℓ) : Prop :=
  ∀ c : Dev Cert.KernelIdeal.nD,
    (Cert.Pre_d_is_no_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_d_is_no_nan [hPre_d_is_no_nan : Cert.Pre_d_is_no_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_d_is_no_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_d_is_no_nan [hKernelIdeal : Cert.KernelIdeal.Facts] [hPre_d_is_no_nan : Cert.Pre_d_is_no_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_d_is_no_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_d_is_no_nan [hReferenceIdeal : Cert.ReferenceIdeal.Facts] [hPre_d_is_no_nan : Cert.Pre_d_is_no_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_d_is_no_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S160x2x512 Cert.KernelIdeal.S160x1x512
  ∧ IdealRules.bf16_pair.HalfStatement Cert.KernelIdeal.S16x512
  ∧ IdealRules.bf16_pair.Statement Cert.KernelIdeal.S16x2x512 Cert.KernelIdeal.S16x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal_pre_d_is_no_nan [hKernelIdeal : Cert.KernelIdeal.Facts] [hReferenceIdeal : Cert.ReferenceIdeal.Facts] [hPre_d_is_no_nan : Cert.Pre_d_is_no_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_d_is_no_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_d_is_no_nan : Cert.Pre_d_is_no_nan.Facts),
    quiescent_Kernel (hKernel := hKernel)
    ∧ quiescent_KernelIdeal (hKernelIdeal := hKernelIdeal)
    ∧ quiescent_KernelIdeal_pre_d_is_no_nan (hKernelIdeal := hKernelIdeal) (hPre_d_is_no_nan := hPre_d_is_no_nan)
    ∧ quiescent_ReferenceIdeal (hReferenceIdeal := hReferenceIdeal)
    ∧ quiescent_ReferenceIdeal_pre_d_is_no_nan (hReferenceIdeal := hReferenceIdeal) (hPre_d_is_no_nan := hPre_d_is_no_nan)
    ∧ preserves_Kernel_KernelIdeal
    ∧ algebraic_KernelIdeal_ReferenceIdeal_pre_d_is_no_nan (hKernelIdeal := hKernelIdeal) (hReferenceIdeal := hReferenceIdeal) (hPre_d_is_no_nan := hPre_d_is_no_nan)
-- ==== Pre_d_is_no_nan.lean ====
abbrev S5x256x2560 : Shape := ⟨3, ![5, 256, 2560]⟩
abbrev S9728x10x2x64 : Shape := ⟨4, ![9728, 10, 2, 64]⟩
abbrev S9728x10x2x32 : Shape := ⟨4, ![9728, 10, 2, 32]⟩
abbrev S9728x10x16 : Shape := ⟨3, ![9728, 10, 16]⟩
abbrev S9728x10 : Shape := ⟨2, ![9728, 10]⟩
abbrev S_ : Shape := ⟨0, ![]⟩

class Facts : Prop where
  natLt_16_32 : 16 < 32
  bcast_S_S9728x10 : S_.BroadcastsInDim S9728x10 (![] : Fin 0 → Fin S9728x10.rank)

variable [Facts]

def fn {F : FTy → Type} [FloatOps F] (main_arg0 : FVec F S5x256x2560 .bf16) (main_arg1 : IVec S9728x10x2x64 8) (main_arg2 : IVec S9728x10x2x32 8) (main_arg3 : IVec S9728x10x16 8) (main_arg4 : IVec S9728x10 16) : IVec S9728x10 1 :=
  let main_v0 : IVec S9728x10 32 := (extsi 32 · natLt_16_32) main_arg4
  let main_c : IVec S_ 32 := constantI S_ 32 32767#32
  let main_v1 : IVec S9728x10 32 := broadcastInDim S9728x10 ![] bcast_S_S9728x10 main_c
  let main_v2 : IVec S9728x10 32 := andi main_v0 main_v1
  let main_c_0 : IVec S_ 32 := constantI S_ 32 31744#32
  let main_v3 : IVec S9728x10 32 := broadcastInDim S9728x10 ![] bcast_S_S9728x10 main_c_0
  let main_v4 : IVec S9728x10 1 := cmpi .sle main_v2 main_v3
  main_v4
-- ==== Kernel.lean ====
abbrev S5x256x2560 : Shape := ⟨3, ![5, 256, 2560]⟩
abbrev S9728x10x2x64 : Shape := ⟨4, ![9728, 10, 2, 64]⟩
abbrev S9728x10x2x32 : Shape := ⟨4, ![9728, 10, 2, 32]⟩
abbrev S9728x10x16 : Shape := ⟨3, ![9728, 10, 16]⟩
abbrev S9728x10 : Shape := ⟨2, ![9728, 10]⟩
abbrev S1280x2560 : Shape := ⟨2, ![1280, 2560]⟩
abbrev S10x2x64x9728 : Shape := ⟨4, ![10, 2, 64, 9728]⟩
abbrev S1280x9728 : Shape := ⟨2, ![1280, 9728]⟩
abbrev S10x2x32x9728 : Shape := ⟨4, ![10, 2, 32, 9728]⟩
abbrev S640x9728 : Shape := ⟨2, ![640, 9728]⟩
abbrev S10x16x9728 : Shape := ⟨3, ![10, 16, 9728]⟩
abbrev S10x9728 : Shape := ⟨2, ![10, 9728]⟩
abbrev S5x10x256 : Shape := ⟨3, ![5, 10, 256]⟩
abbrev S1280x512 : Shape := ⟨2, ![1280, 512]⟩
abbrev S640x512 : Shape := ⟨2, ![640, 512]⟩
abbrev S10x16x512 : Shape := ⟨3, ![10, 16, 512]⟩
abbrev S10x512 : Shape := ⟨2, ![10, 512]⟩
abbrev S2560x512 : Shape := ⟨2, ![2560, 512]⟩
abbrev S160x512 : Shape := ⟨2, ![160, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S10x256 : Shape := ⟨2, ![10, 256]⟩
abbrev S1x10x256 : Shape := ⟨3, ![1, 10, 256]⟩
abbrev S1x512 : Shape := ⟨2, ![1, 512]⟩
abbrev S1x16x512 : Shape := ⟨3, ![1, 16, 512]⟩
abbrev S16x512 : Shape := ⟨2, ![16, 512]⟩
abbrev S32x512 : Shape := ⟨2, ![32, 512]⟩
abbrev S8x512 : Shape := ⟨2, ![8, 512]⟩
abbrev S5x256x9728 : Shape := ⟨3, ![5, 256, 9728]⟩
abbrev S5x256x10 : Shape := ⟨3, ![5, 256, 10]⟩

abbrev nBuf : Space → Nat
  | .hbm => 18
  | .vmem => 16
  | .smem => 0
  | _ => 0

abbrev bufTy : (tb : Table) → Fin (tcTables nBuf tb) → BufTy
  | .hbm, ⟨0, _⟩ => ⟨S5x256x2560, .bf16⟩
  | .hbm, ⟨1, _⟩ => ⟨S9728x10x2x64, .i8⟩
  | .hbm, ⟨2, _⟩ => ⟨S9728x10x2x32, .i8⟩
  | .hbm, ⟨3, _⟩ => ⟨S9728x10x16, .i8⟩
  | .hbm, ⟨4, _⟩ => ⟨S9728x10, .i16⟩
  | .hbm, ⟨5, _⟩ => ⟨S1280x2560, .bf16⟩
  | .hbm, ⟨6, _⟩ => ⟨S10x2x64x9728, .i8⟩
  | .hbm, ⟨7, _⟩ => ⟨S1280x9728, .i8⟩
  | .hbm, ⟨8, _⟩ => ⟨S10x2x32x9728, .i8⟩
  | .hbm, ⟨9, _⟩ => ⟨S640x9728, .i8⟩
  | .hbm, ⟨10, _⟩ => ⟨S10x16x9728, .i8⟩
  | .hbm, ⟨11, _⟩ => ⟨S10x9728, .i16⟩
  | .hbm, ⟨12, _⟩ => ⟨S1280x9728, .bf16⟩
  | .hbm, ⟨13, _⟩ => ⟨S1280x2560, .i8⟩
  | .hbm, ⟨14, _⟩ => ⟨S5x10x256, .f32⟩
  | .hbm, ⟨15, _⟩ => ⟨S5x256x9728, .bf16⟩
  | .hbm, ⟨16, _⟩ => ⟨S5x256x2560, .i8⟩
  | .hbm, ⟨17, _⟩ => ⟨S5x256x10, .f32⟩
  | .local _ .vmem, ⟨0, _⟩ => ⟨S1280x2560, .bf16⟩
  | .local _ .vmem, ⟨1, _⟩ => ⟨S1280x512, .i8⟩
  | .local _ .vmem, ⟨2, _⟩ => ⟨S1280x512, .i8⟩
  | .local _ .vmem, ⟨3, _⟩ => ⟨S640x512, .i8⟩
  | .local _ .vmem, ⟨4, _⟩ => ⟨S640x512, .i8⟩
  | .local _ .vmem, ⟨5, _⟩ => ⟨S10x16x512, .i8⟩
  | .local _ .vmem, ⟨6, _⟩ => ⟨S10x16x512, .i8⟩
  | .local _ .vmem, ⟨7, _⟩ => ⟨S10x512, .i16⟩
  | .local _ .vmem, ⟨8, _⟩ => ⟨S10x512, .i16⟩
  | .local _ .vmem, ⟨9, _⟩ => ⟨S1280x512, .bf16⟩
  | .local _ .vmem, ⟨10, _⟩ => ⟨S1280x512, .bf16⟩
  | .local _ .vmem, ⟨11, _⟩ => ⟨S1280x2560, .i8⟩
  | .local _ .vmem, ⟨12, _⟩ => ⟨S5x10x256, .f32⟩
  | .local _ .vmem, ⟨13, _⟩ => ⟨S1280x2560, .bf16⟩
  | .local _ .vmem, ⟨14, _⟩ => ⟨S2560x512, .bf16⟩
  | .local _ .vmem, ⟨15, _⟩ => ⟨S160x512, .i32⟩
  | _, _ => ⟨S5x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [BitOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_850 : BitVec 32 := 0#32
  let c5_i32 : BitVec 32 := 5#32
  let v2560 : BitVec 32 := Scalar.addi c0_i32_850 c5_i32
  let c1_i32 : BitVec 32 := 1#32
  ⟨c0_i32_850, v2560, c1_i32⟩
def k0_mult1 (k0_t1 : Fin k0_t1_loop.trips) : BitVec 32 :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  v2561
def k0_off1 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2564 : Index := Scalar.indexCast v2562
  let c0_853 : Index := 0#32
  ![v2564.toNat, 0]
def k0_off2 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2602 : Index := Scalar.indexCast v2562
  let c256_861 : Index := 256#32
  ![v2602.toNat, 256]
def k0_off3 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2640 : Index := Scalar.indexCast v2562
  let c512_871 : Index := 512#32
  ![v2640.toNat, 512]
def k0_off4 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2678 : Index := Scalar.indexCast v2562
  let c768_881 : Index := 768#32
  ![v2678.toNat, 768]
def k0_off5 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2716 : Index := Scalar.indexCast v2562
  let c1024_890 : Index := 1024#32
  ![v2716.toNat, 1024]
def k0_off6 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2754 : Index := Scalar.indexCast v2562
  let c1280_900 : Index := 1280#32
  ![v2754.toNat, 1280]
def k0_off7 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2792 : Index := Scalar.indexCast v2562
  let c1536_910 : Index := 1536#32
  ![v2792.toNat, 1536]
def k0_off8 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2830 : Index := Scalar.indexCast v2562
  let c1792_920 : Index := 1792#32
  ![v2830.toNat, 1792]
def k0_off9 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2868 : Index := Scalar.indexCast v2562
  let c2048_929 : Index := 2048#32
  ![v2868.toNat, 2048]
def k0_off10 (k0_t1 : Fin k0_t1_loop.trips) : Fin 2 → Nat :=
  let c0_i32_850 : BitVec 32 := 0#32
  let c1_i32 : BitVec 32 := 1#32
  let arg12 : BitVec 32 := Scf.iv c0_i32_850 c1_i32 k0_t1
  let c256_i32 : BitVec 32 := 256#32
  let v2561 : BitVec 32 := Scalar.muli arg12 c256_i32
  let v2562 : BitVec 32 := v2561
  let v2906 : Index := Scalar.indexCast v2562
  let c2304_938 : Index := 2304#32
  ![v2906.toNat, 2304]
def k0_off11 (k0_t1 : Fin k0_t1_loop.trips) : Fin 3 → Nat :=
  let c0_i32_850 : BitVec 32 := 0#32
  let c1_i32 : BitVec 32 := 1#32
  let arg12 : BitVec 32 := Scf.iv c0_i32_850 c1_i32 k0_t1
  let v2946 : Index := Scalar.indexCast arg12
  let c0_947 : Index := 0#32
  let c0_948 : Index := 0#32
  ![v2946.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1280x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x10x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
abbrev S160x2x512 : Shape := ⟨3, ![160, 2, 512]⟩
abbrev S160x1x512 : Shape := ⟨3, ![160, 1, 512]⟩
abbrev S16x2x512 : Shape := ⟨3, ![16, 2, 512]⟩
abbrev S16x1x512 : Shape := ⟨3, ![16, 1, 512]⟩
abbrev S1x2x512 : Shape := ⟨3, ![1, 2, 512]⟩
abbrev S1x1x512 : Shape := ⟨3, ![1, 1, 512]⟩
  | .local _ .vmem, ⟨15, _⟩ => ⟨S160x2x512, .bf16⟩
variable {F : FTy → Type} [FloatOps F]
-- ==== ReferenceIdeal.lean ====
abbrev S5x256x2560 : Shape := ⟨3, ![5, 256, 2560]⟩
abbrev S9728x10x2x64 : Shape := ⟨4, ![9728, 10, 2, 64]⟩
abbrev S9728x10x2x32 : Shape := ⟨4, ![9728, 10, 2, 32]⟩
abbrev S9728x10x16 : Shape := ⟨3, ![9728, 10, 16]⟩
abbrev S9728x10 : Shape := ⟨2, ![9728, 10]⟩
abbrev S5x256x10x256 : Shape := ⟨4, ![5, 256, 10, 256]⟩
abbrev S_ : Shape := ⟨0, ![]⟩
abbrev S5x256x10 : Shape := ⟨3, ![5, 256, 10]⟩
abbrev S5x256x10x1 : Shape := ⟨4, ![5, 256, 10, 1]⟩
abbrev S9728x10x1 : Shape := ⟨3, ![9728, 10, 1]⟩
abbrev S9728x10x2x4x2 : Shape := ⟨5, ![9728, 10, 2, 4, 2]⟩
abbrev S1x1x1x2x1x1 : Shape := ⟨6, ![1, 1, 1, 2, 1, 1]⟩
abbrev S9728x10x2x1x2x32 : Shape := ⟨6, ![9728, 10, 2, 1, 2, 32]⟩
abbrev S9728x10x2x2x2x32 : Shape := ⟨6, ![9728, 10, 2, 2, 2, 32]⟩
abbrev S9728x10x2x4x32 : Shape := ⟨5, ![9728, 10, 2, 4, 32]⟩
abbrev S1x1x1x4x1 : Shape := ⟨5, ![1, 1, 1, 4, 1]⟩
abbrev S9728x10x2x1x32 : Shape := ⟨5, ![9728, 10, 2, 1, 32]⟩
abbrev S9728x10x2x4x2x16 : Shape := ⟨6, ![9728, 10, 2, 4, 2, 16]⟩
abbrev S9728x10x2x4x2x1 : Shape := ⟨6, ![9728, 10, 2, 4, 2, 1]⟩
abbrev S9728x2560 : Shape := ⟨2, ![9728, 2560]⟩
abbrev S5x256x9728 : Shape := ⟨3, ![5, 256, 9728]⟩

abbrev nBuf : Space → Nat
  | .hbm => 90
  | .vmem => 2
  | .smem => 0
  | _ => 0

abbrev bufTy : (tb : Table) → Fin (tcTables nBuf tb) → BufTy
  | .hbm, ⟨0, _⟩ => ⟨S5x256x2560, .bf16⟩
  | .hbm, ⟨1, _⟩ => ⟨S9728x10x2x64, .i8⟩
  | .hbm, ⟨2, _⟩ => ⟨S9728x10x2x32, .i8⟩
  | .hbm, ⟨3, _⟩ => ⟨S9728x10x16, .i8⟩
  | .hbm, ⟨4, _⟩ => ⟨S9728x10, .i16⟩
  | .hbm, ⟨5, _⟩ => ⟨S5x256x2560, .f32⟩
  | .hbm, ⟨6, _⟩ => ⟨S5x256x10x256, .f32⟩
  | .hbm, ⟨7, _⟩ => ⟨S5x256x10x256, .f32⟩
  | .hbm, ⟨8, _⟩ => ⟨S_, .f32⟩
  | .hbm, ⟨9, _⟩ => ⟨S5x256x10, .f32⟩
  | .hbm, ⟨10, _⟩ => ⟨S_, .f32⟩
  | .hbm, ⟨11, _⟩ => ⟨S5x256x10, .f32⟩
  | .hbm, ⟨12, _⟩ => ⟨S5x256x10, .i1⟩
  | .hbm, ⟨13, _⟩ => ⟨S_, .f32⟩
  | .hbm, ⟨14, _⟩ => ⟨S5x256x10, .f32⟩
  | .hbm, ⟨15, _⟩ => ⟨S5x256x10, .f32⟩
  | .hbm, ⟨16, _⟩ => ⟨S_, .f32⟩
  | .hbm, ⟨17, _⟩ => ⟨S_, .f32⟩
  | .hbm, ⟨18, _⟩ => ⟨S5x256x10, .f32⟩
  | .hbm, ⟨19, _⟩ => ⟨S5x256x10, .f32⟩
  | .hbm, ⟨20, _⟩ => ⟨S5x256x10x1, .f32⟩
  | .hbm, ⟨21, _⟩ => ⟨S5x256x10x256, .f32⟩
  | .hbm, ⟨22, _⟩ => ⟨S5x256x10x256, .f32⟩
  | .hbm, ⟨23, _⟩ => ⟨S5x256x10x256, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S5x256x10x256, .f32⟩
  | .hbm, ⟨28, _⟩ => ⟨S5x256x10x256, .f32⟩
  | .hbm, ⟨29, _⟩ => ⟨S_, .f32⟩
  | .hbm, ⟨30, _⟩ => ⟨S5x256x10x256, .f32⟩
  | .hbm, ⟨31, _⟩ => ⟨S5x256x10x256, .f32⟩
  | .hbm, ⟨32, _⟩ => ⟨S5x256x10x256, .i32⟩
  | .hbm, ⟨33, _⟩ => ⟨S5x256x10x256, .i8⟩
  | .hbm, ⟨34, _⟩ => ⟨S5x256x10x256, .i32⟩
  | .hbm, ⟨35, _⟩ => ⟨S5x256x10x256, .bf16⟩
  | .hbm, ⟨36, _⟩ => ⟨S5x256x10, .bf16⟩
  | .hbm, ⟨37, _⟩ => ⟨S5x256x10x1, .bf16⟩
  | .hbm, ⟨38, _⟩ => ⟨S5x256x10x256, .bf16⟩
  | .hbm, ⟨39, _⟩ => ⟨S5x256x10x256, .bf16⟩
  | .hbm, ⟨40, _⟩ => ⟨S5x256x2560, .bf16⟩
  | .hbm, ⟨41, _⟩ => ⟨S9728x10, .f32⟩
  | .hbm, ⟨42, _⟩ => ⟨S9728x10x1, .f32⟩
  | .hbm, ⟨43, _⟩ => ⟨S9728x10x16, .i32⟩
  | .hbm, ⟨44, _⟩ => ⟨S9728x10x16, .f32⟩
  | .hbm, ⟨45, _⟩ => ⟨S9728x10x16, .f32⟩
  | .hbm, ⟨46, _⟩ => ⟨S9728x10x16, .f32⟩
  | .hbm, ⟨47, _⟩ => ⟨S9728x10x16, .bf16⟩
  | .hbm, ⟨48, _⟩ => ⟨S9728x10x2x4x2, .bf16⟩
  | .hbm, ⟨49, _⟩ => ⟨S1x1x1x2x1x1, .i32⟩
  | .hbm, ⟨50, _⟩ => ⟨S9728x10x2x64, .i32⟩
  | .hbm, ⟨51, _⟩ => ⟨S9728x10x2x1x2x32, .i32⟩
  | .hbm, ⟨52, _⟩ => ⟨S_, .i32⟩
  | .hbm, ⟨53, _⟩ => ⟨S1x1x1x2x1x1, .i32⟩
  | .hbm, ⟨54, _⟩ => ⟨S1x1x1x2x1x1, .i32⟩
  | .hbm, ⟨55, _⟩ => ⟨S9728x10x2x2x2x32, .i32⟩
  | .hbm, ⟨56, _⟩ => ⟨S9728x10x2x2x2x32, .i32⟩
  | .hbm, ⟨57, _⟩ => ⟨S9728x10x2x2x2x32, .i32⟩
  | .hbm, ⟨58, _⟩ => ⟨S_, .i32⟩
  | .hbm, ⟨59, _⟩ => ⟨S9728x10x2x2x2x32, .i32⟩
  | .hbm, ⟨60, _⟩ => ⟨S9728x10x2x2x2x32, .i32⟩
  | .hbm, ⟨61, _⟩ => ⟨S9728x10x2x4x32, .i32⟩
  | .hbm, ⟨62, _⟩ => ⟨S1x1x1x4x1, .i32⟩
  | .hbm, ⟨63, _⟩ => ⟨S9728x10x2x32, .i32⟩
  | .hbm, ⟨64, _⟩ => ⟨S9728x10x2x1x32, .i32⟩
  | .hbm, ⟨65, _⟩ => ⟨S_, .i32⟩
  | .hbm, ⟨66, _⟩ => ⟨S1x1x1x4x1, .i32⟩
  | .hbm, ⟨67, _⟩ => ⟨S1x1x1x4x1, .i32⟩
  | .hbm, ⟨68, _⟩ => ⟨S9728x10x2x4x32, .i32⟩
  | .hbm, ⟨69, _⟩ => ⟨S9728x10x2x4x32, .i32⟩
  | .hbm, ⟨70, _⟩ => ⟨S9728x10x2x4x32, .i32⟩
  | .hbm, ⟨71, _⟩ => ⟨S_, .i32⟩
  | .hbm, ⟨72, _⟩ => ⟨S9728x10x2x4x32, .i32⟩
  | .hbm, ⟨73, _⟩ => ⟨S9728x10x2x4x32, .i32⟩
  | .hbm, ⟨74, _⟩ => ⟨S_, .i32⟩
  | .hbm, ⟨75, _⟩ => ⟨S9728x10x2x4x32, .i32⟩
  | .hbm, ⟨76, _⟩ => ⟨S9728x10x2x4x32, .i32⟩
  | .hbm, ⟨77, _⟩ => ⟨S9728x10x2x4x32, .i32⟩
  | .hbm, ⟨78, _⟩ => ⟨S9728x10x2x4x32, .bf16⟩
  | .hbm, ⟨79, _⟩ => ⟨S_, .bf16⟩
  | .hbm, ⟨80, _⟩ => ⟨S9728x10x2x4x32, .bf16⟩
  | .hbm, ⟨81, _⟩ => ⟨S9728x10x2x4x32, .bf16⟩
  | .hbm, ⟨82, _⟩ => ⟨S9728x10x2x4x2x16, .bf16⟩
  | .hbm, ⟨83, _⟩ => ⟨S9728x10x2x4x2x1, .bf16⟩
  | .hbm, ⟨84, _⟩ => ⟨S9728x10x2x4x2x16, .bf16⟩
  | .hbm, ⟨85, _⟩ => ⟨S9728x10x2x4x2x16, .bf16⟩
  | .hbm, ⟨86, _⟩ => ⟨S9728x2560, .bf16⟩
  | .hbm, ⟨87, _⟩ => ⟨S5x256x9728, .f32⟩
  | .hbm, ⟨88, _⟩ => ⟨S5x256x9728, .bf16⟩
  | .hbm, ⟨89, _⟩ => ⟨S5x256x2560, .i8⟩
  | .local _ .vmem, ⟨0, _⟩ => ⟨S9728x10, .i16⟩
  | .local _ .vmem, ⟨1, _⟩ => ⟨S9728x10, .f32⟩
  | _, _ => ⟨S5x256x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_c_3 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9728x10 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9728x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kit.lean ====
/- The names the two cases of the kernel body share: the condition of its one conditional as a statement about the
   grid point, the staging memrefs and the scratch memrefs at a point, and the pipeline's carried resources spelled
   with the scratch memrefs. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10x512 .i16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x2560 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x10x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1280x2560 .bf16 := Memref.whole cc0_scratch0
abbrev scM0_1 : Memref sig .tc .vmem S2560x512 .bf16 := Memref.whole cc0_scratch1
abbrev scM0_2 : Memref sig .tc .vmem S160x2x512 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.First.lean ====
/- The body at the first point is the quantising loop followed by the body at any other point. -/
module

public import proofs.«01_k».proof.Proof.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The quantising loop of the first point. -/
def quantLoop (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (h : cond0_0 i) : Prog (TpuEff nD τ sig (Elt F) Λ₀ .tc) PUnit :=
  Scf.Loop.for k0_t1_loop (k0_t1_ok i h) ⟨⟩ (k0_t1_body i arg1 harg1 arg2 harg2 arg3 harg3 arg4 harg4 arg5 harg5 arg6 harg6 arg7 harg7 arg8 harg8 arg9 harg9 arg10 harg10 arg11 harg11 h (iota .tc S256x128 32 [1] iota_S256x128_d1_w32))

set_option maxHeartbeats 1000000 in
theorem part9_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (h : cond0_0 i) (h' : ¬cond0_0 i') :
    k0_part9 (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => k0_part9 i' arg1 harg1 arg2 harg2 arg3 harg3 arg4 harg4 arg5 harg5 arg6 harg6 arg7 harg7 arg8 harg8 arg9 harg9 arg10 harg10 arg11 harg11 := by
  rw [k0_part9_eq_skeleton]
  unfold k0_part9_skel quantLoop
  rw [dif_pos (show k0_cond1 i = 1#1 from h), dif_neg (show ¬ k0_cond1 i' = 1#1 from h')]

set_option maxHeartbeats 1000000 in
theorem part82_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (h : cond0_0 i) (h' : ¬cond0_0 i') :
    k0_part82 (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => k0_part82 i' arg1 harg1 arg2 harg2 arg3 harg3 arg4 harg4 arg5 harg5 arg6 harg6 arg7 harg7 arg8 harg8 arg9 harg9 arg10 harg10 arg11 harg11 := by
  rw [k0_part82_eq_skeleton]
  unfold k0_part82_skel
  rw [part9_first i i' arg1 harg1 arg2 harg2 arg3 harg3 arg4 harg4 arg5 harg5 arg6 harg6 arg7 harg7 arg8 harg8 arg9 harg9 arg10 harg10 arg11 harg11 h h', bind_assoc]
  rfl

set_option maxHeartbeats 1000000 in
/-- The body at the first point: the loop, then the body at a point that is not the first. -/
theorem body_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (h : cond0_0 i) (h' : ¬cond0_0 i') :
    cc0_q6k_q8k_linear (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => cc0_q6k_q8k_linear i' arg1 harg1 arg2 harg2 arg3 harg3 arg4 harg4 arg5 harg5 arg6 harg6 arg7 harg7 arg8 harg8 arg9 harg9 arg10 harg10 arg11 harg11 := by
  rw [cc0_q6k_q8k_linear_eq_skeleton]
  unfold cc0_q6k_q8k_linear_skel
  rw [part82_first i i' arg1 harg1 arg2 harg2 arg3 harg3 arg4 harg4 arg5 harg5 arg6 harg6 arg7 harg7 arg8 harg8 arg9 harg9 arg10 harg10 arg11 harg11 h h', bind_assoc]
  rfl

end Cert.KernelIdeal.Hand
-- ==== Proof.Quant.lean ====
/- What the quantising loop writes: ten blocks of codes, ten blocks of rounded activations and one plane of scales a trip,
   each a function of the activations' block alone. -/
module

public import proofs.«01_k».proof.Proof.First
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Where block `j` of trip `k` starts. -/
def actOff (k : Fin k0_t1_loop.trips) (j : Fin 10) : Fin 2 → Nat :=
  match j with
  | 0 => k0_off1 k
  | 1 => k0_off2 k
  | 2 => k0_off3 k
  | 3 => k0_off4 k
  | 4 => k0_off5 k
  | 5 => k0_off6 k
  | 6 => k0_off7 k
  | 7 => k0_off8 k
  | 8 => k0_off9 k
  | 9 => k0_off10 k

theorem actOff_eq (k : Fin k0_t1_loop.trips) (j : Fin 10) : actOff k j = ![256 * k.val, 256 * j.val] := by
  fin_cases j
  exacts [k0_off1_eq k, k0_off2_eq k, k0_off3_eq k, k0_off4_eq k, k0_off5_eq k, k0_off6_eq k, k0_off7_eq k, k0_off8_eq k, k0_off9_eq k, k0_off10_eq k]

theorem trip_lt (k : Fin k0_t1_loop.trips) : k.val < 5 := Nat.lt_of_lt_of_le k.isLt k0_t1_abs.2.1

theorem actOff_inb (k : Fin k0_t1_loop.trips) (j : Fin 10) : ∀ a, actOff k j a + S256x256.size a ≤ S1280x2560.size a := by
  rw [actOff_eq]
  have := trip_lt k; have := j.isLt
  intro a; fin_cases a
  · show 256 * k.val + 256 ≤ 1280; omega
  · show 256 * j.val + 256 ≤ 2560; omega

theorem planeOff_inb (k : Fin k0_t1_loop.trips) : ∀ a, k0_off11 k a + S1x10x256.size a ≤ S5x10x256.size a := by
  rw [k0_off11_eq]
  have := trip_lt k
  intro a; fin_cases a
  · show k.val + 1 ≤ 5; omega
  · show 0 + 10 ≤ 10; omega
  · show 0 + 256 ≤ 256; omega

/-- The activations' block `j` of trip `k`, as the loop loads it. -/
def loadBlk (arg1 : Memref sig .tc .vmem S1280x2560 .bf16) (X : BufTy.Contents (Elt F) arg1.view.ty) (k : Fin k0_t1_loop.trips) (j : Fin 10) : Vec F S256x256 .bf16 :=
  View.readAt (Elt F) arg1.view (Rect.unit (s := S1280x2560) (actOff k j) S256x256.size (actOff_inb k j)).toLoadRect X

/-- The scale column of a block put on lane `n` of the plane being gathered. -/
def laneStep (v : IVec S256x128 32) (B : Vec F S256x256 .bf16) (n : BitVec 32) (acc : FVec F S256x128 .f32) : FVec F S256x128 .f32 :=
  select (cmpi .eq v (broadcast S256x128 n))
    (broadcastTo S256x128 (shapeCast S256x1 (k0_pay3 B) shapeCasts_S256x1_S256x1) broadcasts_S256x1_S256x128) acc

/-- The ten scale columns of a trip gathered on ten lanes, turned into a plane of rows. -/
def scalePlane (B : Fin 10 → Vec F S256x256 .bf16) : FVec F S1x10x256 .f32 :=
  let v : IVec S256x128 32 := iota .tc S256x128 32 [1] iota_S256x128_d1_w32
  shapeCast S1x10x256 (extractStridedSlice S10x256 ![0, 0]
    (transpose S128x256 [1, 0]
      (([0, 1, 2, 3, 4, 5, 6, 7, 8, 9] : List (Fin 10)).foldl (fun acc j => laneStep v (B j) (BitVec.ofNat 32 j.val) acc)
        (broadcast S256x128 (Scalar.ofBits .f32 0x00000000#32)))
      transposes_S256x128_p1_0_S128x256) slices_S128x256_o0_0_S10x256) shapeCasts_S10x256_S1x10x256

def codePiece (arg1 : Memref sig .tc .vmem S1280x2560 .bf16) (X : BufTy.Contents (Elt F) arg1.view.ty) (k : Fin k0_t1_loop.trips) (j : Fin 10) : View.Piece (Elt F) S1280x2560 .i8 :=
  ⟨Rect.unit (s := S1280x2560) (actOff k j) S256x256.size (actOff_inb k j), k0_pay5 (loadBlk arg1 X k j)⟩
def valuePiece (arg1 : Memref sig .tc .vmem S1280x2560 .bf16) (X : BufTy.Contents (Elt F) arg1.view.ty) (k : Fin k0_t1_loop.trips) (j : Fin 10) : View.Piece (Elt F) S1280x2560 .bf16 :=
  ⟨Rect.unit (s := S1280x2560) (actOff k j) S256x256.size (actOff_inb k j), k0_pay6 (loadBlk arg1 X k j)⟩
def planePiece (arg1 : Memref sig .tc .vmem S1280x2560 .bf16) (X : BufTy.Contents (Elt F) arg1.view.ty) (k : Fin k0_t1_loop.trips) : View.Piece (Elt F) S5x10x256 .f32 :=
  ⟨Rect.unit (s := S5x10x256) (k0_off11 k) S1x10x256.size (planeOff_inb k), scalePlane (loadBlk arg1 X k)⟩

section
variable (𝒱 : Variants) (c : Dev nD) (bd : Option 𝒱.V) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole)
  (h : k0_cond1 i = 1#1) (X : BufTy.Contents (Elt F) arg1.view.ty) (k : Fin k0_t1_loop.trips)

set_option maxHeartbeats 1000000 in
theorem trip_codes : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).1
    = ([9, 8, 7, 6, 5, 4, 3, 2, 1, 0] : List (Fin 10)).map (codePiece arg1 X k) := by
  unfold trip_k0_t1; rfl

set_option maxHeartbeats 1000000 in
theorem trip_planes : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).2.1
    = [planePiece arg1 X k] := by
  unfold trip_k0_t1; rfl

set_option maxHeartbeats 1000000 in
theorem trip_values : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).2.2.1
    = ([9, 8, 7, 6, 5, 4, 3, 2, 1, 0] : List (Fin 10)).map (valuePiece arg1 X k) := by
  unfold trip_k0_t1; rfl

/-- The pieces of the trips before `n`. -/
theorem loop_pieces (n : ℕ) (hn : n ≤ k0_t1_loop.trips) :
    let pb := pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X n
    (∀ p, p ∈ pb.1 ↔ ∃ (k : Fin k0_t1_loop.trips) (j : Fin 10), k.val < n ∧ p = codePiece arg1 X k j)
    ∧ (∀ p, p ∈ pb.2.1 ↔ ∃ k : Fin k0_t1_loop.trips, k.val < n ∧ p = planePiece arg1 X k)
    ∧ (∀ p, p ∈ pb.2.2 ↔ ∃ (k : Fin k0_t1_loop.trips) (j : Fin 10), k.val < n ∧ p = valuePiece arg1 X k j) := by
  induction n with
  | zero => refine ⟨fun p => ?_, fun p => ?_, fun p => ?_⟩ <;> simp [pb_k0_t1]
  | succ n ih =>
    obtain ⟨h1, h2, h3⟩ := ih (by omega)
    have all (j : Fin 10) : j ∈ ([9, 8, 7, 6, 5, 4, 3, 2, 1, 0] : List (Fin 10)) := by revert j; decide
    have split {α : Type} (P : α → Fin k0_t1_loop.trips → Prop) (p : α) :
        (P p ⟨n, hn⟩ ∨ ∃ k : Fin k0_t1_loop.trips, k.val < n ∧ P p k) ↔ ∃ k : Fin k0_t1_loop.trips, k.val < n + 1 ∧ P p k := by
      constructor
      · rintro (hp | ⟨k, hk, hp⟩)
        · exact ⟨_, Nat.lt_succ_self n, hp⟩
        · exact ⟨k, by omega, hp⟩
      · rintro ⟨k, hk, hp⟩
        by_cases e : k.val = n
        · left; rwa [show (⟨n, hn⟩ : Fin k0_t1_loop.trips) = k from Fin.ext e.symm]
        · exact Or.inr ⟨k, by omega, hp⟩
    intro pb
    have e : pb = _ := pb_k0_t1_succ (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩
    rw [e]
    refine ⟨fun p => ?_, fun p => ?_, fun p => ?_⟩
    · rw [List.mem_append, h1, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).1 = _ from trip_codes 𝒱 c bd i arg1 harg1 arg2 harg2 arg3 harg3 arg4 harg4 arg5 harg5 arg6 harg6 arg7 harg7 arg8 harg8 arg9 harg9 arg10 harg10 arg11 harg11 h X ⟨n, hn⟩]
      have := split (fun p k => ∃ j, p = codePiece arg1 X k j) p
      simp only [List.mem_map, all, true_and]
      constructor
      · intro hh
        obtain ⟨k, hk, j, rfl⟩ := this.mp (hh.imp (fun ⟨j, hj⟩ => ⟨j, hj.symm⟩) (fun ⟨k, j, hk, hp⟩ => ⟨k, hk, j, hp⟩))
        exact ⟨k, j, hk, rfl⟩
      · rintro ⟨k, j, hk, hp⟩
        exact (this.mpr ⟨k, hk, j, hp⟩).imp (fun ⟨j, hj⟩ => ⟨j, hj.symm⟩) (fun ⟨k, hk, j, hp⟩ => ⟨k, j, hk, hp⟩)
    · rw [List.mem_append, h2, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).2.1 = _ from trip_planes 𝒱 c bd i arg1 harg1 arg2 harg2 arg3 harg3 arg4 harg4 arg5 harg5 arg6 harg6 arg7 harg7 arg8 harg8 arg9 harg9 arg10 harg10 arg11 harg11 h X ⟨n, hn⟩, List.mem_singleton]
      exact split (fun p k => p = planePiece arg1 X k) p
    · rw [List.mem_append, h3, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).2.2 = _ from trip_values 𝒱 c bd i arg1 harg1 arg2 harg2 arg3 harg3 arg4 harg4 arg5 harg5 arg6 harg6 arg7 harg7 arg8 harg8 arg9 harg9 arg10 harg10 arg11 harg11 h X ⟨n, hn⟩]
      have := split (fun p k => ∃ j, p = valuePiece arg1 X k j) p
      simp only [List.mem_map, all, true_and]
      constructor
      · intro hh
        obtain ⟨k, hk, j, rfl⟩ := this.mp (hh.imp (fun ⟨j, hj⟩ => ⟨j, hj.symm⟩) (fun ⟨k, j, hk, hp⟩ => ⟨k, hk, j, hp⟩))
        exact ⟨k, j, hk, rfl⟩
      · rintro ⟨k, j, hk, hp⟩
        exact (this.mpr ⟨k, hk, j, hp⟩).imp (fun ⟨j, hj⟩ => ⟨j, hj.symm⟩) (fun ⟨k, hk, j, hp⟩ => ⟨k, j, hk, hp⟩)

end

/-- Block `(k, j)` of the activations. -/
def actBlk (X : Vec F S1280x2560 .bf16) (k : Fin 5) (j : Fin 10) : Vec F S256x256 .bf16 :=
  fun z => X (ValueIdx.ix2 ⟨256 * k.val + (z 0).val, by have : (z 0).val < 256 := (z 0).isLt; omega⟩ ⟨256 * j.val + (z 1).val, by have : (z 1).val < 256 := (z 1).isLt; omega⟩)

theorem loadBlk_eq (arg1 : Memref sig .tc .vmem S1280x2560 .bf16) (harg1 : arg1.IsWhole) (x0 : Vec F S1280x2560 .bf16) (k : Fin k0_t1_loop.trips) (j : Fin 10) :
    loadBlk arg1 (harg1.unread x0) k j = actBlk x0 ⟨k.val, trip_lt k⟩ j := by
  funext z
  unfold loadBlk actBlk
  rw [View.readAt_apply, harg1.read_unread]
  congr 1
  funext a
  apply Fin.ext
  fin_cases a
  · show actOff k j 0 + 1 * (z 0).val = 256 * k.val + (z 0).val; rw [actOff_eq]; show 256 * k.val + 1 * (z 0).val = _; omega
  · show actOff k j 1 + 1 * (z 1).val = 256 * j.val + (z 1).val; rw [actOff_eq]; show 256 * j.val + 1 * (z 1).val = _; omega

/-- The codes of the whole activations. -/
def codesOf (X : Vec F S1280x2560 .bf16) : Vec F S1280x2560 .i8 :=
  fun y => k0_pay5 (actBlk X ⟨(y 0).val / 256, by have : (y 0).val < 1280 := (y 0).isLt; omega⟩ ⟨(y 1).val / 256, by have : (y 1).val < 2560 := (y 1).isLt; omega⟩)
    (ValueIdx.ix2 ⟨(y 0).val % 256, Nat.mod_lt _ (by decide)⟩ ⟨(y 1).val % 256, Nat.mod_lt _ (by decide)⟩)

/-- The rounded activations, code times scale. -/
def valuesOf (X : Vec F S1280x2560 .bf16) : Vec F S1280x2560 .bf16 :=
  fun y => k0_pay6 (actBlk X ⟨(y 0).val / 256, by have : (y 0).val < 1280 := (y 0).isLt; omega⟩ ⟨(y 1).val / 256, by have : (y 1).val < 2560 := (y 1).isLt; omega⟩)
    (ValueIdx.ix2 ⟨(y 0).val % 256, Nat.mod_lt _ (by decide)⟩ ⟨(y 1).val % 256, Nat.mod_lt _ (by decide)⟩)

/-- The scales of the whole activations, a plane per block row. -/
def scalesOf (X : Vec F S1280x2560 .bf16) : Vec F S5x10x256 .f32 :=
  fun y => scalePlane (actBlk X (y 0)) (ValueIdx.ix3 0 (y 1) (y 2))

end Cert.KernelIdeal.Hand
-- ==== Proof.Run.lean ====
/- The kernel body run once, at a point where its conditional is not taken: the store it leaves in the output block is
   read off the run. -/
module

public import proofs.«01_k».proof.Proof.Kit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4004000 in
/-- The body at a point where its conditional is not taken, its three activation buffers held at `C`, `Sc`, `XQ`: they are
    left as they were, and the store into the output block is found by the run: its payload is a function of the blocks of
    the packed weights and of `XQ`. -/
def run (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) :
    { L : List (View.Piece (Elt F) S1280x512 .bf16) // ∀ (C : Vec F S1280x2560 .i8) (Sc : Vec F S5x10x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L)) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)) -∗ K ⟨⟩))
          ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K } := by
  refine ⟨?_, fun C Sc E K => ?run⟩
  case run =>
    simp only [cc0_q6k_q8k_linear_eq_skeleton]; unfold cc0_q6k_q8k_linear_skel
    simp only [k0_part82_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.KernelIdeal.Hand

end
-- ==== Proof.Pieces.lean ====
/- The stores of the kernel body into its two scratch buffers, all of one form: the run lists ten stores of scale rows and
   160 stores of weight rows; here they are the values of two functions of the block's number. -/
module

public import proofs.«01_k».proof.Proof.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The 32-bit words of a block of high bits, flipped so that the field read off them is the signed one. -/
def highWord (H : Vec F S32x512 .i8) : IVec S8x512 32 :=
  xori (bitcast S8x512 32 (shapeCast S32x512 H shapeCasts_S32x512_S32x512) bitcasts_S32x512_w8_S8x512_w32)
    (broadcast S8x512 2863311530#32)

/-- The 32-bit words of a block of low nibbles. -/
def lowWord (L : Vec F S32x512 .i8) : IVec S8x512 32 :=
  bitcast S8x512 32 (shapeCast S32x512 L shapeCasts_S32x512_S32x512) bitcasts_S32x512_w8_S8x512_w32

/-- Field `f`'s high bits, moved to the top of each byte. -/
def highField (f : Fin 4) (H : Vec F S32x512 .i8) : IVec S8x512 32 :=
  match f with
  | 0 => shli (highWord H) (broadcast S8x512 6#32)
  | 1 => shli (highWord H) (broadcast S8x512 4#32)
  | 2 => shli (highWord H) (broadcast S8x512 2#32)
  | 3 => highWord H

/-- Field `f`'s nibble, moved to bits 2 to 5 of each byte. -/
def lowField (f : Fin 4) (L : Vec F S32x512 .i8) : IVec S8x512 32 :=
  match f with
  | 0 => shli (lowWord L) (broadcast S8x512 2#32)
  | 1 => shli (lowWord L) (broadcast S8x512 2#32)
  | 2 => shrui (lowWord L) (broadcast S8x512 2#32)
  | 3 => shrui (lowWord L) (broadcast S8x512 2#32)

/-- Field `f` of a block: four times the signed six-bit codes, as bf16. -/
def fieldCodes (f : Fin 4) (H L : Vec F S32x512 .i8) : FVec F S32x512 .bf16 :=
  sitofp .bf16 (bitcast S32x512 8
    (ori (andi (lowField f L) (broadcast S8x512 1010580540#32)) (andi (highField f H) (broadcast S8x512 3233857728#32)))
    bitcasts_S8x512_w32_S32x512_w8)

/-- Sixteen copies of a scale row, as rows of pairs. -/
def scaleRows (S : Vec F S1x2x512 .bf16) : FVec F S16x512 .bf16 :=
  let lo : FVec F S1x512 .bf16 := shapeCast S1x512 (rowsOfParity 0 S1x1x512 S bitcasts_S1x2x512_w16_S1x1x512_w32) shapeCasts_S1x1x512_S1x512
  let hi : FVec F S1x512 .bf16 := shapeCast S1x512 (rowsOfParity 1 S1x1x512 S bitcasts_S1x2x512_w16_S1x1x512_w32) shapeCasts_S1x1x512_S1x512
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concatenates_S1x512_S1x512_S1x512_S1x512_S1x512_S1x512_S1x512_S1x512_S8x512_d0)
    bitcasts_S16x512_w16_S8x512_w32

/-- The half `t` of field `f` of a block, times its scale row: what one store writes. -/
def blockRows (f : Fin 4) (t : Fin 2) (H L : Vec F S32x512 .i8) (S : Vec F S1x2x512 .bf16) : FVec F S16x512 .bf16 :=
  shapeCast S16x512
    (mulf (match t with
        | 0 => extractStridedSlice S16x512 ![0, 0] (fieldCodes f H L) slices_S32x512_o0_0_S16x512
        | 1 => extractStridedSlice S16x512 ![16, 0] (fieldCodes f H L) slices_S32x512_o16_0_S16x512)
      (scaleRows S)) shapeCasts_S16x512_S16x512

/-- The quarter of the decoded block scales. -/
def quarter (D : Vec F S10x512 .i16) : FVec F S10x512 .f32 :=
  k0_pay82 (k0_pay74 D) (k0_pay77 D) (k0_pay78 D) (k0_pay79 D) (k0_pay80 D) (k0_pay81 D)

theorem slices_quarter (sb : Fin 10) : Shape.Slices S10x512 ![sb.val, 0] S1x512 := by
  revert sb; decide

/-- Sixteen scale rows of one block, each twice: what one store of scales writes. -/
def pairRows (sb : Fin 10) (D : FVec F S10x512 .f32) (S : Vec F S1x16x512 .i8) : Vec F S16x2x512 .bf16 :=
  let v : FVec F S16x512 .bf16 := truncf .bf16 (mulf (broadcastTo S16x512 (extractStridedSlice S1x512 ![sb.val, 0] D (slices_quarter sb)) broadcasts_S1x512_S16x512)
    (sitofp .f32 (shapeCast S16x512 S shapeCasts_S1x16x512_S16x512))) bitsLt_bf16_f32
  interleaveRows S16x2x512 (shapeCast S16x1x512 v shapeCasts_S16x512_S16x1x512) (shapeCast S16x1x512 v shapeCasts_S16x512_S16x1x512) bitcasts_S16x2x512_w16_S16x1x512_w32

theorem inb_pair (sb : Fin 10) : ∀ a, (![16 * sb.val, 0, 0] : Fin 3 → ℕ) a + S16x2x512.size a ≤ S160x2x512.size a := by
  revert sb; decide
theorem inb_sc (sb : Fin 10) : ∀ a, (![sb.val, 0, 0] : Fin 3 → ℕ) a + S1x16x512.size a ≤ S10x16x512.size a := by
  revert sb; decide

/-- One store of scale rows, block `sb`'s. -/
def pairPiece (arg4 : Memref sig .tc .vmem S10x16x512 .i8) (harg4 : arg4.IsWhole) (arg5 : Memref sig .tc .vmem S10x512 .i16) (harg5 : arg5.IsWhole)
    (x3 : Vec F S10x16x512 .i8) (x4 : Vec F S10x512 .i16) (sb : Fin 10) : View.Piece (Elt F) S160x2x512 .bf16 :=
  ⟨Rect.unit (s := S160x2x512) ![16 * sb.val, 0, 0] S16x2x512.size (inb_pair sb),
    pairRows sb (quarter (View.readAt (Elt F) arg5.view (Rect.unit (s := S10x512) ![0, 0] S10x512.size inb_S10x512_S10x512_0_0).toLoadRect (harg5.unread x4)))
      (View.readAt (Elt F) arg4.view (Rect.unit (s := S10x16x512) ![sb.val, 0, 0] S1x16x512.size (inb_sc sb)).toLoadRect (harg4.unread x3))⟩

/-- The ten stores of scale rows, last first. -/
theorem pairs_eq (c : Dev nD) (arg4 : Memref sig .tc .vmem S10x16x512 .i8) (harg4 : arg4.IsWhole) (arg5 : Memref sig .tc .vmem S10x512 .i16) (harg5 : arg5.IsWhole)
    (x3 : Vec F S10x16x512 .i8) (x4 : Vec F S10x512 .i16) :
    run.sl.HS2_10 c arg4 harg4 arg5 harg5 x3 x4 = ([9, 8, 7, 6, 5, 4, 3, 2, 1, 0] : List (Fin 10)).map (pairPiece arg4 harg4 arg5 harg5 x3 x4) := rfl

def rowOf (hb : Fin 20) (f : Fin 4) (t : Fin 2) : ℕ := hb.val * 128 + f.val * 32 + t.val * 16

theorem inb_row (hb : Fin 20) (f : Fin 4) (t : Fin 2) : ∀ a, (![rowOf hb f t, 0] : Fin 2 → ℕ) a + S16x512.size a ≤ S2560x512.size a := by
  have := hb.isLt; have := f.isLt; have := t.isLt
  intro a; fin_cases a
  · show rowOf hb f t + 16 ≤ 2560; unfold rowOf; omega
  · show 0 + 512 ≤ 512; omega
theorem inb_high (hb : Fin 20) : ∀ a, (![hb.val * 32, 0] : Fin 2 → ℕ) a + S32x512.size a ≤ S640x512.size a := by
  have := hb.isLt
  intro a; fin_cases a
  · show hb.val * 32 + 32 ≤ 640; omega
  · show 0 + 512 ≤ 512; omega
theorem inb_low (hb : Fin 20) (f : Fin 4) : ∀ a, (![hb.val * 64 + f.val % 2 * 32, 0] : Fin 2 → ℕ) a + S32x512.size a ≤ S1280x512.size a := by
  have := hb.isLt
  intro a; fin_cases a
  · show hb.val * 64 + f.val % 2 * 32 + 32 ≤ 1280; omega
  · show 0 + 512 ≤ 512; omega
theorem inb_srow (hb : Fin 20) (f : Fin 4) (t : Fin 2) : ∀ a, (![hb.val * 8 + f.val * 2 + t.val, 0, 0] : Fin 3 → ℕ) a + S1x2x512.size a ≤ S160x2x512.size a := by
  have := hb.isLt; have := f.isLt; have := t.isLt
  intro a; fin_cases a
  · show hb.val * 8 + f.val * 2 + t.val + 1 ≤ 160; omega
  · show 0 + 2 ≤ 2; omega
  · show 0 + 512 ≤ 512; omega

/-- One store of weight rows. -/
def rowPiece (arg2 : Memref sig .tc .vmem S1280x512 .i8) (harg2 : arg2.IsWhole) (arg3 : Memref sig .tc .vmem S640x512 .i8) (harg3 : arg3.IsWhole)
    (arg11 : Memref sig .tc .vmem S160x2x512 .bf16)
    (x1 : Vec F S1280x512 .i8) (x2 : Vec F S640x512 .i8) (P : List (View.Piece (Elt F) S160x2x512 .bf16)) (hb : Fin 20) (p : Fin 4 × Fin 2) :
    View.Piece (Elt F) S2560x512 .bf16 :=
  ⟨Rect.unit (s := S2560x512) ![rowOf hb p.1 p.2, 0] S16x512.size (inb_row hb p.1 p.2),
    blockRows p.1 p.2 (View.readAt (Elt F) arg3.view (Rect.unit (s := S640x512) ![hb.val * 32, 0] S32x512.size (inb_high hb)).toLoadRect (harg3.unread x2))
      (View.readAt (Elt F) arg2.view (Rect.unit (s := S1280x512) ![hb.val * 64 + p.1.val % 2 * 32, 0] S32x512.size (inb_low hb p.1)).toLoadRect (harg2.unread x1))
      (arg11.view.readCov P (Rect.unit (s := S160x2x512) ![hb.val * 8 + p.1.val * 2 + p.2.val, 0, 0] S1x2x512.size (inb_srow hb p.1 p.2)).toLoadRect)⟩

/-- The 160 stores of weight rows, last first. -/
theorem rows_eq (c : Dev nD) (arg2 : Memref sig .tc .vmem S1280x512 .i8) (harg2 : arg2.IsWhole) (arg3 : Memref sig .tc .vmem S640x512 .i8) (harg3 : arg3.IsWhole)
    (arg4 : Memref sig .tc .vmem S10x16x512 .i8) (harg4 : arg4.IsWhole) (arg5 : Memref sig .tc .vmem S10x512 .i16) (harg5 : arg5.IsWhole)
    (arg11 : Memref sig .tc .vmem S160x2x512 .bf16)
    (x1 : Vec F S1280x512 .i8) (x2 : Vec F S640x512 .i8) (x3 : Vec F S10x16x512 .i8) (x4 : Vec F S10x512 .i16) :
    run.sl.HS1_160 c arg2 harg2 arg3 harg3 arg4 harg4 arg5 harg5 arg11 x1 x2 x3 x4
      = ([19, 18, 17, 16, 15, 14, 13, 12, 11, 10, 9, 8, 7, 6, 5, 4, 3, 2, 1, 0] : List (Fin 20)).flatMap fun hb =>
          ([(3, 1), (3, 0), (1, 1), (1, 0), (2, 1), (2, 0), (0, 1), (0, 0)] : List (Fin 4 × Fin 2)).map
            (rowPiece arg2 harg2 arg3 harg3 arg11 x1 x2 (run.sl.HS2_10 c arg4 harg4 arg5 harg5 x3 x4) hb) := rfl

end Cert.KernelIdeal.Hand
-- ==== Proof.Weights.lean ====
/- What the body's two scratch buffers hold once filled: the scale rows and the weights, index by index. -/
module

public import proofs.«01_k».proof.Proof.Pieces
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every scale row, twice. -/
def pairsOf (x3 : Vec F S10x16x512 .i8) (x4 : Vec F S10x512 .i16) : Vec F S160x2x512 .bf16 :=
  fun y => pairRows ⟨(y 0).val / 16, by have : (y 0).val < 160 := (y 0).isLt; omega⟩ (quarter x4)
    (fun z => x3 (ValueIdx.ix3 ⟨(y 0).val / 16, by have : (y 0).val < 160 := (y 0).isLt; omega⟩ (z 1) (z 2)))
    (ValueIdx.ix3 ⟨(y 0).val % 16, Nat.mod_lt _ (by decide)⟩ (y 1) (y 2))

/-- The block of high bits that 128 weight rows are read from. -/
def highBlk (x2 : Vec F S640x512 .i8) (hb : Fin 20) : Vec F S32x512 .i8 :=
  fun z => x2 (ValueIdx.ix2 ⟨hb.val * 32 + (z 0).val, by have := hb.isLt; have : (z 0).val < 32 := (z 0).isLt; omega⟩ (z 1))

/-- The block of low nibbles that 32 weight rows are read from. -/
def lowBlk (x1 : Vec F S1280x512 .i8) (hb : Fin 20) (f : Fin 4) : Vec F S32x512 .i8 :=
  fun z => x1 (ValueIdx.ix2 ⟨hb.val * 64 + f.val % 2 * 32 + (z 0).val, by have := hb.isLt; have : (z 0).val < 32 := (z 0).isLt; omega⟩ (z 1))

/-- One scale row, twice. -/
def scaleBlk (S : Vec F S160x2x512 .bf16) (hb : Fin 20) (f : Fin 4) (t : Fin 2) : Vec F S1x2x512 .bf16 :=
  fun z => S (ValueIdx.ix3 ⟨hb.val * 8 + f.val * 2 + t.val, by have := hb.isLt; omega⟩ (z 1) (z 2))

/-- The weights of a block of columns. -/
def weightsOf (x1 : Vec F S1280x512 .i8) (x2 : Vec F S640x512 .i8) (x3 : Vec F S10x16x512 .i8) (x4 : Vec F S10x512 .i16) : Vec F S2560x512 .bf16 :=
  fun y =>
    let hb : Fin 20 := ⟨(y 0).val / 128, by have : (y 0).val < 2560 := (y 0).isLt; omega⟩
    let f : Fin 4 := ⟨(y 0).val % 128 / 32, by omega⟩
    let t : Fin 2 := ⟨(y 0).val % 32 / 16, by omega⟩
    blockRows f t (highBlk x2 hb) (lowBlk x1 hb f) (scaleBlk (pairsOf x3 x4) hb f t)
      (ValueIdx.ix2 ⟨(y 0).val % 16, Nat.mod_lt _ (by decide)⟩ (y 1))

theorem pair_agrees (arg4 : Memref sig .tc .vmem S10x16x512 .i8) (harg4 : arg4.IsWhole) (arg5 : Memref sig .tc .vmem S10x512 .i16) (harg5 : arg5.IsWhole)
    (x3 : Vec F S10x16x512 .i8) (x4 : Vec F S10x512 .i16) (sb : Fin 10) (x : (pairPiece arg4 harg4 arg5 harg5 x3 x4 sb).1.shape.Idx) :
    (pairPiece arg4 harg4 arg5 harg5 x3 x4 sb).2 x = pairsOf x3 x4 ((pairPiece arg4 harg4 arg5 harg5 x3 x4 sb).1.emb x) := by
  have h0 : ((pairPiece arg4 harg4 arg5 harg5 x3 x4 sb).1.emb x 0).val = 16 * sb.val + 1 * (x 0).val := rfl
  have h1 : ((pairPiece arg4 harg4 arg5 harg5 x3 x4 sb).1.emb x 1).val = 0 + 1 * (x 1).val := rfl
  have h2 : ((pairPiece arg4 harg4 arg5 harg5 x3 x4 sb).1.emb x 2).val = 0 + 1 * (x 2).val := rfl
  have hx0 : (x 0).val < 16 := (x 0).isLt
  generalize (pairPiece arg4 harg4 arg5 harg5 x3 x4 sb).1.emb x = y at h0 h1 h2
  have hq : View.readAt (Elt F) arg5.view (Rect.unit (s := S10x512) ![0, 0] S10x512.size inb_S10x512_S10x512_0_0).toLoadRect (harg5.unread x4) = x4 := by
    funext z; rw [View.readAt_apply, harg5.read_unread]
    congr 1; funext a; apply Fin.ext; fin_cases a
    · show 0 + 1 * (z 0).val = (z 0).val; omega
    · show 0 + 1 * (z 1).val = (z 1).val; omega
  show pairRows sb (quarter (View.readAt (Elt F) arg5.view (Rect.unit (s := S10x512) ![0, 0] S10x512.size inb_S10x512_S10x512_0_0).toLoadRect (harg5.unread x4)))
      (View.readAt (Elt F) arg4.view (Rect.unit (s := S10x16x512) ![sb.val, 0, 0] S1x16x512.size (inb_sc sb)).toLoadRect (harg4.unread x3)) x = pairsOf x3 x4 y
  rw [hq]
  unfold pairsOf
  have hsb : sb = ⟨(y 0).val / 16, by have : (y 0).val < 160 := (y 0).isLt; omega⟩ := Fin.ext (by show sb.val = (y 0).val / 16; omega)
  rw [← hsb]
  congr 1
  · funext z; rw [View.readAt_apply, harg4.read_unread]
    congr 1; funext a; apply Fin.ext; fin_cases a
    · show sb.val + 1 * (z 0).val = sb.val; have : (z 0).val < 1 := (z 0).isLt; omega
    · show 0 + 1 * (z 1).val = (z 1).val; omega
    · show 0 + 1 * (z 2).val = (z 2).val; omega
  · funext a; apply Fin.ext; fin_cases a
    · show (x 0).val = (y 0).val % 16; omega
    · show (x 1).val = (y 1).val; omega
    · show (x 2).val = (y 2).val; omega

theorem pairs_read (c : Dev nD) (arg4 : Memref sig .tc .vmem S10x16x512 .i8) (harg4 : arg4.IsWhole) (arg5 : Memref sig .tc .vmem S10x512 .i16) (harg5 : arg5.IsWhole)
    (x3 : Vec F S10x16x512 .i8) (x4 : Vec F S10x512 .i16) : View.canon (run.sl.HS2_10 c arg4 harg4 arg5 harg5 x3 x4) = pairsOf x3 x4 := by
  funext y
  rw [pairs_eq]
  have hy : (y 0).val < 160 := (y 0).isLt
  have all (j : Fin 10) : j ∈ ([9, 8, 7, 6, 5, 4, 3, 2, 1, 0] : List (Fin 10)) := by revert j; decide
  refine View.canon_apply_of_pieces _ _ (fun p hp => ?_) y ?_
  · obtain ⟨sb, -, rfl⟩ := List.mem_map.mp hp
    exact pair_agrees arg4 harg4 arg5 harg5 x3 x4 sb
  · refine ⟨_, List.mem_map.mpr ⟨⟨(y 0).val / 16, by omega⟩, all _, rfl⟩, ?_⟩
    refine (LoadRect.mem_set _).mpr fun a => ?_
    fin_cases a
    · exact ⟨(y 0).val % 16, Nat.mod_lt _ (by decide), by show (y 0).val = 16 * ((y 0).val / 16) + 1 * ((y 0).val % 16); omega⟩
    · exact ⟨(y 1).val, (y 1).isLt, by show (y 1).val = 0 + 1 * (y 1).val; omega⟩
    · exact ⟨(y 2).val, (y 2).isLt, by show (y 2).val = 0 + 1 * (y 2).val; omega⟩

theorem row_agrees (arg2 : Memref sig .tc .vmem S1280x512 .i8) (harg2 : arg2.IsWhole) (arg3 : Memref sig .tc .vmem S640x512 .i8) (harg3 : arg3.IsWhole)
    (arg11 : Memref sig .tc .vmem S160x2x512 .bf16)
    (x1 : Vec F S1280x512 .i8) (x2 : Vec F S640x512 .i8) (x3 : Vec F S10x16x512 .i8) (x4 : Vec F S10x512 .i16) (P : List (View.Piece (Elt F) S160x2x512 .bf16))
    (hP : View.canon P = pairsOf x3 x4) (hb : Fin 20) (p : Fin 4 × Fin 2) (x : (rowPiece arg2 harg2 arg3 harg3 arg11 x1 x2 P hb p).1.shape.Idx) :
    (rowPiece arg2 harg2 arg3 harg3 arg11 x1 x2 P hb p).2 x = weightsOf x1 x2 x3 x4 ((rowPiece arg2 harg2 arg3 harg3 arg11 x1 x2 P hb p).1.emb x) := by
  obtain ⟨f, t⟩ := p
  have h0 : ((rowPiece arg2 harg2 arg3 harg3 arg11 x1 x2 P hb (f, t)).1.emb x 0).val = hb.val * 128 + f.val * 32 + t.val * 16 + 1 * (x 0).val := rfl
  have h1 : ((rowPiece arg2 harg2 arg3 harg3 arg11 x1 x2 P hb (f, t)).1.emb x 1).val = 0 + 1 * (x 1).val := rfl
  have hx0 : (x 0).val < 16 := (x 0).isLt
  have hf := f.isLt; have ht := t.isLt
  generalize (rowPiece arg2 harg2 arg3 harg3 arg11 x1 x2 P hb (f, t)).1.emb x = y at h0 h1
  have hH : View.readAt (Elt F) arg3.view (Rect.unit (s := S640x512) ![hb.val * 32, 0] S32x512.size (inb_high hb)).toLoadRect (harg3.unread x2) = highBlk x2 hb := by
    funext z; rw [View.readAt_apply, harg3.read_unread]; unfold highBlk
    congr 1; funext a; apply Fin.ext; fin_cases a
    · show hb.val * 32 + 1 * (z 0).val = hb.val * 32 + (z 0).val; omega
    · show 0 + 1 * (z 1).val = (z 1).val; omega
  have hL : View.readAt (Elt F) arg2.view (Rect.unit (s := S1280x512) ![hb.val * 64 + f.val % 2 * 32, 0] S32x512.size (inb_low hb f)).toLoadRect (harg2.unread x1) = lowBlk x1 hb f := by
    funext z; rw [View.readAt_apply, harg2.read_unread]; unfold lowBlk
    congr 1; funext a; apply Fin.ext; fin_cases a
    · show hb.val * 64 + f.val % 2 * 32 + 1 * (z 0).val = hb.val * 64 + f.val % 2 * 32 + (z 0).val; omega
    · show 0 + 1 * (z 1).val = (z 1).val; omega
  have hS : arg11.view.readCov P (Rect.unit (s := S160x2x512) ![hb.val * 8 + f.val * 2 + t.val, 0, 0] S1x2x512.size (inb_srow hb f t)).toLoadRect = scaleBlk (pairsOf x3 x4) hb f t := by
    rw [View.readCov_eq_canon', hP]
    funext z; unfold scaleBlk
    show pairsOf x3 x4 _ = pairsOf x3 x4 _
    congr 1; funext a; apply Fin.ext; fin_cases a
    · show hb.val * 8 + f.val * 2 + t.val + 1 * (z 0).val = hb.val * 8 + f.val * 2 + t.val; have : (z 0).val < 1 := (z 0).isLt; omega
    · show 0 + 1 * (z 1).val = (z 1).val; omega
    · show 0 + 1 * (z 2).val = (z 2).val; omega
  show blockRows f t (View.readAt (Elt F) arg3.view (Rect.unit (s := S640x512) ![hb.val * 32, 0] S32x512.size (inb_high hb)).toLoadRect (harg3.unread x2))
      (View.readAt (Elt F) arg2.view (Rect.unit (s := S1280x512) ![hb.val * 64 + f.val % 2 * 32, 0] S32x512.size (inb_low hb f)).toLoadRect (harg2.unread x1))
      (arg11.view.readCov P (Rect.unit (s := S160x2x512) ![hb.val * 8 + f.val * 2 + t.val, 0, 0] S1x2x512.size (inb_srow hb f t)).toLoadRect) x = weightsOf x1 x2 x3 x4 y
  rw [hH, hL, hS]
  unfold weightsOf
  have e1 : (⟨(y 0).val / 128, by have : (y 0).val < 2560 := (y 0).isLt; omega⟩ : Fin 20) = hb := Fin.ext (by show (y 0).val / 128 = hb.val; omega)
  have e2 : (⟨(y 0).val % 128 / 32, by omega⟩ : Fin 4) = f := Fin.ext (by show (y 0).val % 128 / 32 = f.val; omega)
  have e3 : (⟨(y 0).val % 32 / 16, by omega⟩ : Fin 2) = t := Fin.ext (by show (y 0).val % 32 / 16 = t.val; omega)
  dsimp only
  rw [e1, e2, e3]
  congr 1
  funext a; apply Fin.ext; fin_cases a
  · show (x 0).val = (y 0).val % 16; omega
  · show (x 1).val = (y 1).val; omega

/-- The weights, read back whole. -/
theorem weights_read (c : Dev nD) (arg2 : Memref sig .tc .vmem S1280x512 .i8) (harg2 : arg2.IsWhole) (arg3 : Memref sig .tc .vmem S640x512 .i8) (harg3 : arg3.IsWhole)
    (arg4 : Memref sig .tc .vmem S10x16x512 .i8) (harg4 : arg4.IsWhole) (arg5 : Memref sig .tc .vmem S10x512 .i16) (harg5 : arg5.IsWhole)
    (arg10 : Memref sig .tc .vmem S2560x512 .bf16) (arg11 : Memref sig .tc .vmem S160x2x512 .bf16)
    (x1 : Vec F S1280x512 .i8) (x2 : Vec F S640x512 .i8) (x3 : Vec F S10x16x512 .i8) (x4 : Vec F S10x512 .i16) :
    run.sl.v2555 c arg2 harg2 arg3 harg3 arg4 harg4 arg5 harg5 arg10 arg11 x1 x2 x3 x4 = weightsOf x1 x2 x3 x4 := by
  funext y
  unfold run.sl.v2555
  rw [View.readCov_eq_canon', rows_eq]
  have hy : (y 0).val < 2560 := (y 0).isLt
  have all (j : Fin 20) : j ∈ ([19, 18, 17, 16, 15, 14, 13, 12, 11, 10, 9, 8, 7, 6, 5, 4, 3, 2, 1, 0] : List (Fin 20)) := by revert j; decide
  have all' (p : Fin 4 × Fin 2) : p ∈ ([(3, 1), (3, 0), (1, 1), (1, 0), (2, 1), (2, 0), (0, 1), (0, 0)] : List (Fin 4 × Fin 2)) := by revert p; decide
  have e : (Rect.unit (s := S2560x512) ![0, 0] ![2560, 512] inb_S2560x512_S2560x512_0_0).toLoadRect.idx y = y := by
    funext a; apply Fin.ext; fin_cases a
    · show 0 + 1 * (y 0).val = (y 0).val; omega
    · show 0 + 1 * (y 1).val = (y 1).val; omega
  show View.canon _ ((Rect.unit (s := S2560x512) ![0, 0] ![2560, 512] inb_S2560x512_S2560x512_0_0).toLoadRect.idx y) = _
  rw [e]
  refine View.canon_apply_of_pieces _ _ (fun p hp => ?_) y ?_
  · obtain ⟨hb, -, hp⟩ := List.mem_flatMap.mp hp
    obtain ⟨q, -, rfl⟩ := List.mem_map.mp hp
    exact row_agrees arg2 harg2 arg3 harg3 arg11 x1 x2 x3 x4 _ (pairs_read c arg4 harg4 arg5 harg5 x3 x4) hb q
  · refine ⟨_, List.mem_flatMap.mpr ⟨⟨(y 0).val / 128, by omega⟩, all _, List.mem_map.mpr ⟨(⟨(y 0).val % 128 / 32, by omega⟩, ⟨(y 0).val % 32 / 16, by omega⟩), all' _, rfl⟩⟩, ?_⟩
    refine (LoadRect.mem_set _).mpr fun a => ?_
    fin_cases a
    · exact ⟨(y 0).val % 16, Nat.mod_lt _ (by decide), by show (y 0).val = (y 0).val / 128 * 128 + (y 0).val % 128 / 32 * 32 + (y 0).val % 32 / 16 * 16 + 1 * ((y 0).val % 16); omega⟩
    · exact ⟨(y 1).val, (y 1).isLt, by show (y 1).val = 0 + 1 * (y 1).val; omega⟩

end Cert.KernelIdeal.Hand
-- ==== Proof.Loop.lean ====
/- The kernel body at a point, as a triple: at the first point the loop fills the three activation buffers, and at every
   point the output block is the product of the rounded activations and the weights. -/
module

public import proofs.«01_k».proof.Proof.First
public import proofs.«01_k».proof.Proof.Quant
public import proofs.«01_k».proof.Proof.Weights

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem trips_eq : k0_t1_loop.trips = 5 := by decide

/-- The output block of a grid point. -/
def outBlock (x1 : Vec F S1280x512 .i8) (x2 : Vec F S640x512 .i8) (x3 : Vec F S10x16x512 .i8) (x4 : Vec F S10x512 .i16) (XQ : Vec F S1280x2560 .bf16) : Vec F S1280x512 .bf16 :=
  k0_pay1 XQ (weightsOf x1 x2 x3 x4)

section
variable (𝒱 : Variants) (c : Dev nD) (bd : Option 𝒱.V) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole)
  (h : k0_cond1 i = 1#1) (x0 : Vec F S1280x2560 .bf16)

/-- What the loop's stores leave in this buffer, whatever it held. -/
theorem codes_written (G : BufTy.Contents (Elt F) arg7.view.ty) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).1) = codesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 1280 := (y 0).isLt
  have hy1 : (y 1).val < 2560 := (y 1).isLt
  refine View.read_writes_apply_of_pieces _ _ (codesOf x0) _ (fun p hp => ?_) y ?_
  · obtain ⟨k, j, -, rfl⟩ := (h1 p).mp hp
    intro x
    have e0 : ((codePiece arg1 (harg1.unread x0) k j).1.emb x 0).val = 256 * k.val + 1 * (x 0).val := by
      show actOff k j 0 + 1 * (x 0).val = _; rw [actOff_eq]; rfl
    have e1 : ((codePiece arg1 (harg1.unread x0) k j).1.emb x 1).val = 256 * j.val + 1 * (x 1).val := by
      show actOff k j 1 + 1 * (x 1).val = _; rw [actOff_eq]; rfl
    have hx0 : (x 0).val < 256 := (x 0).isLt
    have hx1 : (x 1).val < 256 := (x 1).isLt
    have hk := trip_lt k
    generalize (codePiece arg1 (harg1.unread x0) k j).1.emb x = z at e0 e1
    show k0_pay5 (loadBlk arg1 (harg1.unread x0) k j) x = codesOf x0 z
    rw [loadBlk_eq]
    unfold codesOf
    have a1 : (⟨k.val, trip_lt k⟩ : Fin 5) = ⟨(z 0).val / 256, by have : (z 0).val < 1280 := (z 0).isLt; omega⟩ := Fin.ext (by show k.val = (z 0).val / 256; omega)
    have a2 : j = ⟨(z 1).val / 256, by have : (z 1).val < 2560 := (z 1).isLt; omega⟩ := Fin.ext (by show j.val = (z 1).val / 256; omega)
    rw [← a1, ← a2]
    congr 1
    funext a; apply Fin.ext; fin_cases a
    · show (x 0).val = (z 0).val % 256; omega
    · show (x 1).val = (z 1).val % 256; omega
  · have hk : (y 0).val / 256 < k0_t1_loop.trips := by rw [trips_eq]; omega
    refine ⟨_, (h1 _).mpr ⟨⟨(y 0).val / 256, hk⟩, ⟨(y 1).val / 256, by omega⟩, hk, rfl⟩, ?_⟩
    refine (LoadRect.mem_set _).mpr fun a => ?_
    fin_cases a
    · refine ⟨(y 0).val % 256, Nat.mod_lt _ (by decide), ?_⟩
      show (y 0).val = actOff ⟨(y 0).val / 256, hk⟩ ⟨(y 1).val / 256, by omega⟩ 0 + 1 * ((y 0).val % 256)
      rw [actOff_eq]; show (y 0).val = 256 * ((y 0).val / 256) + 1 * ((y 0).val % 256); omega
    · refine ⟨(y 1).val % 256, Nat.mod_lt _ (by decide), ?_⟩
      show (y 1).val = actOff ⟨(y 0).val / 256, hk⟩ ⟨(y 1).val / 256, by omega⟩ 1 + 1 * ((y 1).val % 256)
      rw [actOff_eq]; show (y 1).val = 256 * ((y 1).val / 256) + 1 * ((y 1).val % 256); omega

/-- What the loop's stores leave in this buffer, whatever it held. -/
theorem values_written (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).2.2) = valuesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 1280 := (y 0).isLt
  have hy1 : (y 1).val < 2560 := (y 1).isLt
  refine View.read_writes_apply_of_pieces _ _ (valuesOf x0) _ (fun p hp => ?_) y ?_
  · obtain ⟨k, j, -, rfl⟩ := (h3 p).mp hp
    intro x
    have e0 : ((valuePiece arg1 (harg1.unread x0) k j).1.emb x 0).val = 256 * k.val + 1 * (x 0).val := by
      show actOff k j 0 + 1 * (x 0).val = _; rw [actOff_eq]; rfl
    have e1 : ((valuePiece arg1 (harg1.unread x0) k j).1.emb x 1).val = 256 * j.val + 1 * (x 1).val := by
      show actOff k j 1 + 1 * (x 1).val = _; rw [actOff_eq]; rfl
    have hx0 : (x 0).val < 256 := (x 0).isLt
    have hx1 : (x 1).val < 256 := (x 1).isLt
    have hk := trip_lt k
    generalize (valuePiece arg1 (harg1.unread x0) k j).1.emb x = z at e0 e1
    show k0_pay6 (loadBlk arg1 (harg1.unread x0) k j) x = valuesOf x0 z
    rw [loadBlk_eq]
    unfold valuesOf
    have a1 : (⟨k.val, trip_lt k⟩ : Fin 5) = ⟨(z 0).val / 256, by have : (z 0).val < 1280 := (z 0).isLt; omega⟩ := Fin.ext (by show k.val = (z 0).val / 256; omega)
    have a2 : j = ⟨(z 1).val / 256, by have : (z 1).val < 2560 := (z 1).isLt; omega⟩ := Fin.ext (by show j.val = (z 1).val / 256; omega)
    rw [← a1, ← a2]
    congr 1
    funext a; apply Fin.ext; fin_cases a
    · show (x 0).val = (z 0).val % 256; omega
    · show (x 1).val = (z 1).val % 256; omega
  · have hk : (y 0).val / 256 < k0_t1_loop.trips := by rw [trips_eq]; omega
    refine ⟨_, (h3 _).mpr ⟨⟨(y 0).val / 256, hk⟩, ⟨(y 1).val / 256, by omega⟩, hk, rfl⟩, ?_⟩
    refine (LoadRect.mem_set _).mpr fun a => ?_
    fin_cases a
    · refine ⟨(y 0).val % 256, Nat.mod_lt _ (by decide), ?_⟩
      show (y 0).val = actOff ⟨(y 0).val / 256, hk⟩ ⟨(y 1).val / 256, by omega⟩ 0 + 1 * ((y 0).val % 256)
      rw [actOff_eq]; show (y 0).val = 256 * ((y 0).val / 256) + 1 * ((y 0).val % 256); omega
    · refine ⟨(y 1).val % 256, Nat.mod_lt _ (by decide), ?_⟩
      show (y 1).val = actOff ⟨(y 0).val / 256, hk⟩ ⟨(y 1).val / 256, by omega⟩ 1 + 1 * ((y 1).val % 256)
      rw [actOff_eq]; show (y 1).val = 256 * ((y 1).val / 256) + 1 * ((y 1).val % 256); omega

/-- What the loop's stores leave in the scales' buffer, whatever it held. -/
theorem planes_written (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).2.1) = scalesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 5 := (y 0).isLt
  refine View.read_writes_apply_of_pieces _ _ (scalesOf x0) _ (fun p hp => ?_) y ?_
  · obtain ⟨k, -, rfl⟩ := (h2 p).mp hp
    intro x
    have e (a : Fin 3) : ((planePiece arg1 (harg1.unread x0) k).1.emb x a).val = (![k.val, 0, 0] : Fin 3 → Nat) a + 1 * (x a).val := by
      show k0_off11 k a + 1 * (x a).val = _; rw [k0_off11_eq]
    have e0 := e 0; have e1 := e 1; have e2 := e 2
    have hx0 : (x 0).val < 1 := (x 0).isLt
    have hk := trip_lt k
    generalize (planePiece arg1 (harg1.unread x0) k).1.emb x = z at e0 e1 e2
    simp only [Matrix.cons_val] at e0 e1 e2
    show scalePlane (loadBlk arg1 (harg1.unread x0) k) x = scalesOf x0 z
    rw [show loadBlk arg1 (harg1.unread x0) k = actBlk x0 ⟨k.val, trip_lt k⟩ from funext fun j => loadBlk_eq arg1 harg1 x0 k j]
    unfold scalesOf
    have a1 : (⟨k.val, trip_lt k⟩ : Fin 5) = z 0 := Fin.ext (by show k.val = (z 0).val; omega)
    rw [a1]
    congr 1
    funext a; apply Fin.ext; fin_cases a
    · show (x 0).val = 0; omega
    · show (x 1).val = (z 1).val; omega
    · show (x 2).val = (z 2).val; omega
  · have hk : (y 0).val < k0_t1_loop.trips := by rw [trips_eq]; omega
    refine ⟨_, (h2 _).mpr ⟨⟨(y 0).val, hk⟩, hk, rfl⟩, ?_⟩
    refine (LoadRect.mem_set _).mpr fun a => ?_
    have e : (planePiece arg1 (harg1.unread x0) ⟨(y 0).val, hk⟩).1.off = ![(y 0).val, 0, 0] := k0_off11_eq _
    fin_cases a
    · refine ⟨0, by show 0 < 1; omega, ?_⟩
      show (y 0).val = k0_off11 ⟨(y 0).val, hk⟩ 0 + 1 * 0
      rw [k0_off11_eq]; rfl
    · refine ⟨(y 1).val, (y 1).isLt, ?_⟩
      show (y 1).val = k0_off11 ⟨(y 0).val, hk⟩ 1 + 1 * (y 1).val
      rw [k0_off11_eq]; show (y 1).val = 0 + 1 * (y 1).val; omega
    · refine ⟨(y 2).val, (y 2).isLt, ?_⟩
      show (y 2).val = k0_off11 ⟨(y 0).val, hk⟩ 2 + 1 * (y 2).val
      rw [k0_off11_eq]; show (y 2).val = 0 + 1 * (y 2).val; omega

set_option maxHeartbeats 1000000 in
/-- The loop fills the three activation buffers, whatever they held. -/
theorem loop_triple (E : Set ℕ) (kk : PUnit → Prog (TpuEff nD τ sig (Elt F) Λ₀ .tc) PUnit) (Q : PUnit → sProp 𝕄) :
    iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg7 fullShare (codesOf x0) ∗ owns (c : Thread nD τ) arg8 fullShare (scalesOf x0) ∗ owns (c : Thread nD τ) arg9 fullShare (valuesOf x0)) -∗ wp frame (wpE (defs₀ (F := F)) 𝒱 c bd) E (kk ⟨⟩) Q))
      ⊢ wp frame (wpE (defs₀ (F := F)) 𝒱 c bd) E (quantLoop i arg1 harg1 arg2 harg2 arg3 harg3 arg4 harg4 arg5 harg5 arg6 harg6 arg7 harg7 arg8 harg8 arg9 harg9 arg10 harg10 arg11 harg11 h >>= kk) Q := by
  unfold owns
  iintro ⟨⟨%f0, %hf0, H0⟩, ⟨%d7, %f7, -, H7⟩, ⟨%d8, %f8, -, H8⟩, ⟨%d9, %f9, -, H9⟩, Hk⟩
  obtain rfl := harg1.eq_unread hf0
  iapply (Scf.wp_for_bind frame (wpE (defs₀ (F := F)) 𝒱 (c : Thread nD τ) bd) E k0_t1_loop.lb k0_t1_loop.ub k0_t1_loop.st (k0_t1_ok i h) () (k0_t1_body (F := F) i arg1 harg1 arg2 harg2 arg3 harg3 arg4 harg4 arg5 harg5 arg6 harg6 arg7 harg7 arg8 harg8 arg9 harg9 arg10 harg10 arg11 harg11 h (iota .tc S256x128 32 [1] iota_S256x128_d1_w32))
    (inv_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) f7 f8 f9) (loopInv_k0_t1 (F := F) 𝒱 c bd E i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) f7 f8 f9).step (kk := kk) (Q := Q)) $$ [H0 H7 H8 H9]
  · isplitl [H0]; · iexact H0
    isplitl [H7]
    · iexists _; isplitl [H7]; · iexact H7
      ipureintro; rfl
    isplitl [H8]
    · iexists _; isplitl [H8]; · iexact H8
      ipureintro; rfl
    iexists _; isplitl [H9]; · iexact H9
    ipureintro; rfl
  · iintro %acc ⟨H0, ⟨%g7, H7, %e7⟩, ⟨%g8, H8, %e8⟩, ⟨%g9, H9, %e9⟩⟩
    iapply Hk
    isplitl [H0]
    · iexists _; isplitr; · ipureintro; exact harg1.read_unread _
      iexact H0
    isplitl [H7]
    · iexists g7; isplitr; · ipureintro; rw [e7]; exact codes_written 𝒱 c bd i arg1 harg1 arg2 harg2 arg3 harg3 arg4 harg4 arg5 harg5 arg6 harg6 arg7 harg7 arg8 harg8 arg9 harg9 arg10 harg10 arg11 harg11 h x0 f7
      iexact H7
    isplitl [H8]
    · iexists g8; isplitr; · ipureintro; rw [e8]; exact planes_written 𝒱 c bd i arg1 harg1 arg2 harg2 arg3 harg3 arg4 harg4 arg5 harg5 arg6 harg6 arg7 harg7 arg8 harg8 arg9 harg9 arg10 harg10 arg11 harg11 h x0 f8
      iexact H8
    iexists g9; isplitr; · ipureintro; rw [e9]; exact values_written 𝒱 c bd i arg1 harg1 arg2 harg2 arg3 harg3 arg4 harg4 arg5 harg5 arg6 harg6 arg7 harg7 arg8 harg8 arg9 harg9 arg10 harg10 arg11 harg11 h x0 f9
    iexact H9

end

/-- The body where its conditional is not taken. -/
theorem later (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) (C : Vec F S1280x2560 .i8) (Sc : Vec F S5x10x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x1 x2 x3 x4 XQ) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)) -∗ K ⟨⟩))
      ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((run c i arg1 harg1 arg2 harg2 arg3 harg3 arg4 harg4 arg5 harg5 arg6 harg6 arg7 harg7 arg8 harg8 arg9 harg9 arg10 harg10 arg11 harg11 hc0 x0 x1 x2 x3 x4 XQ).2 C Sc E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, ⟨%f, H6⟩, H7, H8, H9, H10, H11⟩
  iapply Hk
  isplitl [H1]; · iexact H1
  isplitl [H2]; · iexact H2
  isplitl [H3]; · iexact H3
  isplitl [H4]; · iexact H4
  isplitl [H5]; · iexact H5
  isplitl [H6]
  · unfold owns
    iexists _; isplitr
    · ipureintro
      show arg6.view.read (Elt F) (arg6.view.writes (Elt F) f [⟨Rect.unit (s := S1280x512) ![0, 0] ![1280, 512] inb_S1280x512_S1280x512_0_0, k0_pay1 (run.sl.r_164 c arg9 harg9 XQ) (run.sl.v2555 c arg2 harg2 arg3 harg3 arg4 harg4 arg5 harg5 arg10 arg11 x1 x2 x3 x4)⟩]) = _
      refine (View.read_writes_full arg6.view f inb_S1280x512_S1280x512_0_0 _ []).trans ?_
      rw [weights_read]
      have e : run.sl.r_164 c arg9 harg9 XQ = XQ := by
        unfold run.sl.r_164
        refine (View.readAt_full arg9.view _ inb_S1280x2560_S1280x2560_0_0).trans ?_
        exact harg9.read_unread _
      rw [e]; rfl
    · iexact H6
  isplitl [H7]; · iexact H7
  isplitl [H8]; · iexact H8
  isplitl [H9]; · iexact H9
  isplitl [H10]; · iexact H10
  iexact H11

/-- The body at the first point. -/
theorem first (c : Dev nD) (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x2x512 .bf16) (harg11 : arg11.IsWhole) (hc0 : cond0_0 i) (hc1 : ¬cond0_0 i')
    (x0 : Vec F S1280x2560 .bf16) (x1 : Vec F S1280x512 .i8) (x2 : Vec F S640x512 .i8) (x3 : Vec F S10x16x512 .i8) (x4 : Vec F S10x512 .i16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock x1 x2 x3 x4 (valuesOf x0)) ∗ owns (c : Thread nD τ) arg7 fullShare (codesOf x0) ∗ owns (c : Thread nD τ) arg8 fullShare (scalesOf x0) ∗ owns (c : Thread nD τ) arg9 fullShare (valuesOf x0) ∗ (∃ d, owns (c : Thread nD τ) arg10 fullShare d) ∗ (∃ d, owns (c : Thread nD τ) arg11 fullShare d)) -∗ K ⟨⟩))
      ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K := by
  rw [body_first i i' arg1 harg1 arg2 harg2 arg3 harg3 arg4 harg4 arg5 harg5 arg6 harg6 arg7 harg7 arg8 harg8 arg9 harg9 arg10 harg10 arg11 harg11 hc0 hc1]
  iintro ⟨H1, H2, H3, H4, H5, H6, H7, H8, H9, H10, H11, Hk⟩
  iapply (loop_triple Variants.none c none i arg1 harg1 arg2 harg2 arg3 harg3 arg4 harg4 arg5 harg5 arg6 harg6 arg7 harg7 arg8 harg8 arg9 harg9 arg10 harg10 arg11 harg11 hc0 x0 E _ K)
  isplitl [H1]; · iexact H1
  isplitl [H7]; · iexact H7
  isplitl [H8]; · iexact H8
  isplitl [H9]; · iexact H9
  iintro ⟨H1, H7, H8, H9⟩
  iapply (later c i' arg1 harg1 arg2 harg2 arg3 harg3 arg4 harg4 arg5 harg5 arg6 harg6 arg7 harg7 arg8 harg8 arg9 harg9 arg10 harg10 arg11 harg11 hc1 x0 x1 x2 x3 x4 (valuesOf x0) (codesOf x0) (scalesOf x0) E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hk

end Cert.KernelIdeal.Hand
-- ==== Proof.Launch.lean ====
/- The proof data of the kernel's pipeline, the body's obligation at every point, the launch and the frame. -/
module

public import proofs.«01_k».proof.Proof.Loop
public import Idealize.ShloMosaic.Lib.Claim
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations, which every point reads whole. -/
abbrev acts (c : Dev nD) : Vec F S1280x2560 .bf16 := iblk m c 0 ⟨0, by decide⟩

theorem acts_eq (c : Dev nD) (t : Fin cfg0.N) : (iblk m c 0 t : Vec F S1280x2560 .bf16) = acts m c := rfl

/-- What a point leaves in the output block. -/
def outAt (c : Dev nD) (t : Fin cfg0.N) : Vec F S1280x512 .bf16 :=
  outBlock (iblk m c 1 t) (iblk m c 2 t) (iblk m c 3 t) (iblk m c 4 t) (valuesOf (acts m c))

/-- The invariant between points: from the second point on the first scratch buffer holds the rounded activations. -/
def between (c : Dev nD) (t : Fin (cfg0.N + 1)) : sProp 𝕄 :=
  if t.val = 0 then Pipeline.ΦA spec0 c
  else iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r))

/-- The proof data: the inputs stay; the output block is `outAt`; codes and scales are those of the whole activations at
    every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => codesOf (acts m c)
    | ⟨7, _⟩ => scalesOf (acts m c)
  Φ t := between m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem after0_6 (c : Dev nD) (t : Fin cfg0.N) : (dats m 0 c).after 6 t = codesOf (acts m c) := by dsimp only [dats]
theorem after0_7 (c : Dev nD) (t : Fin cfg0.N) : (dats m 0 c).after 7 t = scalesOf (acts m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem idle0_6 (t : Fin cfg0.N) (h : t.val ≠ 0) : cfg0.idle 6 (grid0.coords t) = true := by
  have hN : t.val < 19 := lt_of_lt_of_eq t.isLt (show cfg0.N = 19 from N_0)
  have h' : ¬ k0_cond1 (grid0.coords t) = 1#1 := fun hh => h (by have := (hcond0_0 t).mp hh; omega)
  show (!(k0_cond1 (grid0.coords t) == 1#1)) = true
  simp [h']

theorem live0_6 (t : Fin cfg0.N) (h : t.val = 0) : cfg0.idle 6 (grid0.coords t) = false := by
  have h' : k0_cond1 (grid0.coords t) = 1#1 := (hcond0_0 t).mpr (by omega)
  show (!(k0_cond1 (grid0.coords t) == 1#1)) = false
  simp [h']

theorem fresh0_6 (n : ℕ) (hn : n ≤ cfg0.N) : cfg0.fresh 6 n = decide (n = 0 ∨ n = 19) := by
  refine Pipeline.Cfg.fresh_tab cfg0 6 (fun n => decide (n = 0 ∨ n = 19)) rfl (fun t => ?_) n hn
  have hN : t.val < 19 := lt_of_lt_of_eq t.isLt (show cfg0.N = 19 from N_0)
  have hf := flush0_6 t
  have hf' : (cfg0.win 6).flush t = decide (t.val % 19 = 18) := by
    cases h : (cfg0.win 6).flush t
    · exact (decide_eq_false fun hh => by rw [hf.mpr hh] at h; cases h).symm
    · exact (decide_eq_true (hf.mp h)).symm
  rw [hf']
  by_cases h : t.val = 0
  · rw [show cfg0.idle 6 (cfg0.grid.coords t) = false from live0_6 t h]; simp [h]
  · rw [show cfg0.idle 6 (cfg0.grid.coords t) = true from idle0_6 t h]
    have e1 : (t.val = 0 ∨ t.val = 19) ↔ False := ⟨fun hh => by omega, False.elim⟩
    have e2 : (t.val + 1 = 0 ∨ t.val + 1 = 19) ↔ t.val % 19 = 18 := by omega
    simp only [e1, e2, decide_false, Bool.and_false, Bool.or_false]

/-- After the first point the buffer holds what the first point left. -/
theorem before0_6 (c : Dev nD) (t : Fin cfg0.N) (h : t.val ≠ 0) (d) : (dats m 0 c).before 6 t d = codesOf (acts m c) := by
  have hN : t.val < 19 := lt_of_lt_of_eq t.isLt (show cfg0.N = 19 from N_0)
  rw [(dats m 0 c).before_out_traj 6 rfl (fun _ _ => rfl) (fun _ _ _ _ => rfl) t.val t rfl d, fresh0_6 t.val (Nat.le_of_lt t.isLt),
    if_neg (by simp; omega), after0_6]

theorem idle0_7 (t : Fin cfg0.N) (h : t.val ≠ 0) : cfg0.idle 7 (grid0.coords t) = true := by
  have hN : t.val < 19 := lt_of_lt_of_eq t.isLt (show cfg0.N = 19 from N_0)
  have h' : ¬ k0_cond1 (grid0.coords t) = 1#1 := fun hh => h (by have := (hcond0_0 t).mp hh; omega)
  show (!(k0_cond1 (grid0.coords t) == 1#1)) = true
  simp [h']

theorem live0_7 (t : Fin cfg0.N) (h : t.val = 0) : cfg0.idle 7 (grid0.coords t) = false := by
  have h' : k0_cond1 (grid0.coords t) = 1#1 := (hcond0_0 t).mpr (by omega)
  show (!(k0_cond1 (grid0.coords t) == 1#1)) = false
  simp [h']

theorem fresh0_7 (n : ℕ) (hn : n ≤ cfg0.N) : cfg0.fresh 7 n = decide (n = 0 ∨ n = 19) := by
  refine Pipeline.Cfg.fresh_tab cfg0 7 (fun n => decide (n = 0 ∨ n = 19)) rfl (fun t => ?_) n hn
  have hN : t.val < 19 := lt_of_lt_of_eq t.isLt (show cfg0.N = 19 from N_0)
  have hf := flush0_7 t
  have hf' : (cfg0.win 7).flush t = decide (t.val % 19 = 18) := by
    cases h : (cfg0.win 7).flush t
    · exact (decide_eq_false fun hh => by rw [hf.mpr hh] at h; cases h).symm
    · exact (decide_eq_true (hf.mp h)).symm
  rw [hf']
  by_cases h : t.val = 0
  · rw [show cfg0.idle 7 (cfg0.grid.coords t) = false from live0_7 t h]; simp [h]
  · rw [show cfg0.idle 7 (cfg0.grid.coords t) = true from idle0_7 t h]
    have e1 : (t.val = 0 ∨ t.val = 19) ↔ False := ⟨fun hh => by omega, False.elim⟩
    have e2 : (t.val + 1 = 0 ∨ t.val + 1 = 19) ↔ t.val % 19 = 18 := by omega
    simp only [e1, e2, decide_false, Bool.and_false, Bool.or_false]

/-- After the first point the buffer holds what the first point left. -/
theorem before0_7 (c : Dev nD) (t : Fin cfg0.N) (h : t.val ≠ 0) (d) : (dats m 0 c).before 7 t d = scalesOf (acts m c) := by
  have hN : t.val < 19 := lt_of_lt_of_eq t.isLt (show cfg0.N = 19 from N_0)
  rw [(dats m 0 c).before_out_traj 7 rfl (fun _ _ => rfl) (fun _ _ _ _ => rfl) t.val t rfl d, fresh0_7 t.val (Nat.le_of_lt t.isLt),
    if_neg (by simp; omega), after0_7]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_6 (c : Dev nD) (t : Fin cfg0.N) :
    owns (c : Thread nD τ) (ms0_6 t) fullShare (codesOf (acts m c)) ⊢ ((dats m 0 c).leavesExact 6 t : sProp 𝕄) := by
  by_cases h : t.val = 0
  · rw [show (dats m 0 c).leavesExact 6 t = owns (c : Thread nD τ) (ms0_6 t) fullShare ((dats m 0 c).after 6 t) from by
      unfold Dat.leavesExact; rw [show cfg0.idle 6 (cfg0.grid.coords t) = false from live0_6 t h], after0_6]
  · cases hf : (cfg0.win 6).flush t
    · rw [(dats m 0 c).leavesExact_idle 6 t (idle0_6 t h) hf]
      simp only [before0_6 m c t h]
      iintro H; iexists (codesOf (acts m c)); iexact H
    · rw [show (dats m 0 c).leavesExact 6 t = owns (c : Thread nD τ) (ms0_6 t) fullShare ((dats m 0 c).after 6 t) from by
        unfold Dat.leavesExact; rw [show cfg0.idle 6 (cfg0.grid.coords t) = true from idle0_6 t h, hf], after0_6]

theorem leaves0_7 (c : Dev nD) (t : Fin cfg0.N) :
    owns (c : Thread nD τ) (ms0_7 t) fullShare (scalesOf (acts m c)) ⊢ ((dats m 0 c).leavesExact 7 t : sProp 𝕄) := by
  by_cases h : t.val = 0
  · rw [show (dats m 0 c).leavesExact 7 t = owns (c : Thread nD τ) (ms0_7 t) fullShare ((dats m 0 c).after 7 t) from by
      unfold Dat.leavesExact; rw [show cfg0.idle 7 (cfg0.grid.coords t) = false from live0_7 t h], after0_7]
  · cases hf : (cfg0.win 7).flush t
    · rw [(dats m 0 c).leavesExact_idle 7 t (idle0_7 t h) hf]
      simp only [before0_7 m c t h]
      iintro H; iexists (scalesOf (acts m c)); iexact H
    · rw [show (dats m 0 c).leavesExact 7 t = owns (c : Thread nD τ) (ms0_7 t) fullShare ((dats m 0 c).after 7 t) from by
        unfold Dat.leavesExact; rw [show cfg0.idle 7 (cfg0.grid.coords t) = true from idle0_7 t h, hf], after0_7]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  have hN : t.val < 19 := lt_of_lt_of_eq t.isLt (show cfg0.N = 19 from N_0)
  rw [show (dats m 0 c).Φ t.succ = iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r)) from
    (show between m c t.succ = _ from if_neg (Nat.succ_ne_zero _))]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  have hout : outAt m c t = outBlock (iblk m c 1 t) (iblk m c 2 t) (iblk m c 3 t) (iblk m c 4 t) (valuesOf (iblk m c 0 t)) := rfl
  by_cases h0 : t.val = 0
  · rw [show (dats m 0 c).Φ t.castSucc = Pipeline.ΦA spec0 c from (show between m c t.castSucc = _ from if_pos h0), PhiA0_eq]
    have hc : cond0_0 (grid0.coords t) := (hcond0_0 t).mpr (by omega)
    have hc' : ¬ cond0_0 (grid0.coords ⟨1, by decide⟩) := fun h => by have := (hcond0_0 ⟨1, by decide⟩).mp h; exact absurd this (by decide)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) (grid0.coords ⟨1, by decide⟩) _ _ _ _ _ _ _ _ _ _ _ _ _ _ _ _ _ _ _ _ _ _ hc hc' (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7
  · rw [show (dats m 0 c).Φ t.castSucc = iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r)) from
      (show between m c t.castSucc = _ from if_neg h0)]
    simp only [before0_6 m c t h0, before0_7 m c t h0]
    have hc : ¬ cond0_0 (grid0.coords t) := fun h => h0 (by have := (hcond0_0 t).mp h; omega)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ _ _ _ _ hc (iblk m c 0 t) (iblk m c 1 t) (iblk m c 2 t) (iblk m c 3 t) (iblk m c 4 t) (valuesOf (acts m c)) (codesOf (acts m c)) (scalesOf (acts m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem between_last (c : Dev nD) : between m c (Fin.last cfg0.N) ⊢ (Pipeline.ΦA spec0 c : sProp 𝕄) := by
  rw [PhiA0_eq, show between m c (Fin.last cfg0.N) = _ from if_neg (by show ¬ cfg0.N = 0; decide)]
  iintro ⟨⟨HS0, HS1, HS2⟩, Hg⟩
  isplitl [HS0 HS1 HS2]
  · isplitl [HS0]; · iexists _; iexact HS0
    isplitl [HS1]; · iexact HS1
    iexact HS2
  iexact Hg

set_option backward.isDefEq.respectTransparency.types false in
set_option maxHeartbeats 800000 in
/-- The launch: every final state has the pipeline's arrays at what the proof data say, and no semaphore raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Pipeline.ΦA spec0 c from (show between m c 0 = _ from if_pos rfl)])
    (hout := fun c => between_last m c)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.Bits.Kit.lean ====
/- The names the two cases of the kernel body share: the condition of its one conditional as a statement about the
   grid point, the staging memrefs and the scratch memrefs at a point, and the pipeline's carried resources spelled
   with the scratch memrefs. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 19 = 0 :=
  (fun t => by
    have ht : t.val < 19 := Nat.lt_of_lt_of_eq t.isLt N_0
    have e0 : (grid0.coords t 0).val = t.val / 1 % 19 := Pipeline.Grid.coords_val t 0 (by decide) rfl
    simp only [cond0_0, k0_cond1, e0]
    word_cmp
   : ∀ t : Fin grid0.N, cond0_0 (grid0.coords t) ↔ t.val % 19 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10x512 .i16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x2560 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x10x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1280x2560 .bf16 := Memref.whole cc0_scratch0
abbrev scM0_1 : Memref sig .tc .vmem S2560x512 .bf16 := Memref.whole cc0_scratch1
abbrev scM0_2 : Memref sig .tc .vmem S160x512 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.Bits.First.lean ====
/- The body at the first point is the quantising loop followed by the body at any other point. -/
module

public import proofs.«01_k».proof.Proof.Bits.Kit

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The quantising loop of the first point. -/
def quantLoop (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (h : cond0_0 i) : Prog (TpuEff nD τ sig (Elt F) Λ₀ .tc) PUnit :=
  Scf.Loop.for k0_t1_loop (k0_t1_ok i h) ⟨⟩ (k0_t1_body i arg1 harg1 arg2 harg2 arg3 harg3 arg4 harg4 arg5 harg5 arg6 harg6 arg7 harg7 arg8 harg8 arg9 harg9 arg10 harg10 arg11 harg11 h (iota .tc S256x128 32 [1] iota_S256x128_d1_w32))

set_option maxHeartbeats 1000000 in
theorem part9_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (h : cond0_0 i) (h' : ¬cond0_0 i') :
    k0_part9 (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => k0_part9 i' arg1 harg1 arg2 harg2 arg3 harg3 arg4 harg4 arg5 harg5 arg6 harg6 arg7 harg7 arg8 harg8 arg9 harg9 arg10 harg10 arg11 harg11 := by
  rw [k0_part9_eq_skeleton]
  unfold k0_part9_skel quantLoop
  rw [dif_pos (show k0_cond1 i = 1#1 from h), dif_neg (show ¬ k0_cond1 i' = 1#1 from h')]

set_option maxHeartbeats 1000000 in
theorem part74_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (h : cond0_0 i) (h' : ¬cond0_0 i') :
    k0_part74 (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => k0_part74 i' arg1 harg1 arg2 harg2 arg3 harg3 arg4 harg4 arg5 harg5 arg6 harg6 arg7 harg7 arg8 harg8 arg9 harg9 arg10 harg10 arg11 harg11 := by
  rw [k0_part74_eq_skeleton]
  unfold k0_part74_skel
  rw [part9_first i i' arg1 harg1 arg2 harg2 arg3 harg3 arg4 harg4 arg5 harg5 arg6 harg6 arg7 harg7 arg8 harg8 arg9 harg9 arg10 harg10 arg11 harg11 h h', bind_assoc]
  rfl

set_option maxHeartbeats 1000000 in
/-- The body at the first point: the loop, then the body at a point that is not the first. -/
theorem body_first (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (h : cond0_0 i) (h' : ¬cond0_0 i') :
    cc0_q6k_q8k_linear (F := F) i arg1 harg1 arg2 harg2 arg3 harg3 arg4 harg4 arg5 harg5 arg6 harg6 arg7 harg7 arg8 harg8 arg9 harg9 arg10 harg10 arg11 harg11 = quantLoop i arg1 harg1 arg2 harg2 arg3 harg3 arg4 harg4 arg5 harg5 arg6 harg6 arg7 harg7 arg8 harg8 arg9 harg9 arg10 harg10 arg11 harg11 h >>= fun _ => cc0_q6k_q8k_linear i' arg1 harg1 arg2 harg2 arg3 harg3 arg4 harg4 arg5 harg5 arg6 harg6 arg7 harg7 arg8 harg8 arg9 harg9 arg10 harg10 arg11 harg11 := by
  rw [cc0_q6k_q8k_linear_eq_skeleton]
  unfold cc0_q6k_q8k_linear_skel
  rw [part74_first i i' arg1 harg1 arg2 harg2 arg3 harg3 arg4 harg4 arg5 harg5 arg6 harg6 arg7 harg7 arg8 harg8 arg9 harg9 arg10 harg10 arg11 harg11 h h', bind_assoc]
  rfl

end Cert.Kernel.Hand
-- ==== Proof.Bits.Quant.lean ====
/- What the quantising loop writes: ten blocks of codes, ten blocks of rounded activations and one plane of scales a trip,
   each a function of the activations' block alone. -/
module

public import proofs.«01_k».proof.Proof.Bits.First
public import Idealize.ShloMosaic.Lib.ValueIdx

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- Where block `j` of trip `k` starts. -/
def actOff (k : Fin k0_t1_loop.trips) (j : Fin 10) : Fin 2 → Nat :=
  match j with
  | 0 => k0_off1 k
  | 1 => k0_off2 k
  | 2 => k0_off3 k
  | 3 => k0_off4 k
  | 4 => k0_off5 k
  | 5 => k0_off6 k
  | 6 => k0_off7 k
  | 7 => k0_off8 k
  | 8 => k0_off9 k
  | 9 => k0_off10 k

theorem actOff_eq (k : Fin k0_t1_loop.trips) (j : Fin 10) : actOff k j = ![256 * k.val, 256 * j.val] := by
  fin_cases j
  exacts [k0_off1_eq k, k0_off2_eq k, k0_off3_eq k, k0_off4_eq k, k0_off5_eq k, k0_off6_eq k, k0_off7_eq k, k0_off8_eq k, k0_off9_eq k, k0_off10_eq k]

theorem trip_lt (k : Fin k0_t1_loop.trips) : k.val < 5 := Nat.lt_of_lt_of_le k.isLt k0_t1_abs.2.1

theorem actOff_inb (k : Fin k0_t1_loop.trips) (j : Fin 10) : ∀ a, actOff k j a + S256x256.size a ≤ S1280x2560.size a := by
  rw [actOff_eq]
  have := trip_lt k; have := j.isLt
  intro a; fin_cases a
  · show 256 * k.val + 256 ≤ 1280; omega
  · show 256 * j.val + 256 ≤ 2560; omega

theorem planeOff_inb (k : Fin k0_t1_loop.trips) : ∀ a, k0_off11 k a + S1x10x256.size a ≤ S5x10x256.size a := by
  rw [k0_off11_eq]
  have := trip_lt k
  intro a; fin_cases a
  · show k.val + 1 ≤ 5; omega
  · show 0 + 10 ≤ 10; omega
  · show 0 + 256 ≤ 256; omega

/-- The activations' block `j` of trip `k`, as the loop loads it. -/
def loadBlk (arg1 : Memref sig .tc .vmem S1280x2560 .bf16) (X : BufTy.Contents (Elt F) arg1.view.ty) (k : Fin k0_t1_loop.trips) (j : Fin 10) : Vec F S256x256 .bf16 :=
  View.readAt (Elt F) arg1.view (Rect.unit (s := S1280x2560) (actOff k j) S256x256.size (actOff_inb k j)).toLoadRect X

/-- The scale column of a block put on lane `n` of the plane being gathered. -/
def laneStep (v : IVec S256x128 32) (B : Vec F S256x256 .bf16) (n : BitVec 32) (acc : FVec F S256x128 .f32) : FVec F S256x128 .f32 :=
  select (cmpi .eq v (broadcast S256x128 n))
    (broadcastTo S256x128 (shapeCast S256x1 (k0_pay3 B) shapeCasts_S256x1_S256x1) broadcasts_S256x1_S256x128) acc

/-- The ten scale columns of a trip gathered on ten lanes, turned into a plane of rows. -/
def scalePlane (B : Fin 10 → Vec F S256x256 .bf16) : FVec F S1x10x256 .f32 :=
  let v : IVec S256x128 32 := iota .tc S256x128 32 [1] iota_S256x128_d1_w32
  shapeCast S1x10x256 (extractStridedSlice S10x256 ![0, 0]
    (transpose S128x256 [1, 0]
      (([0, 1, 2, 3, 4, 5, 6, 7, 8, 9] : List (Fin 10)).foldl (fun acc j => laneStep v (B j) (BitVec.ofNat 32 j.val) acc)
        (broadcast S256x128 (Scalar.ofBits .f32 0x00000000#32)))
      transposes_S256x128_p1_0_S128x256) slices_S128x256_o0_0_S10x256) shapeCasts_S10x256_S1x10x256

def codePiece (arg1 : Memref sig .tc .vmem S1280x2560 .bf16) (X : BufTy.Contents (Elt F) arg1.view.ty) (k : Fin k0_t1_loop.trips) (j : Fin 10) : View.Piece (Elt F) S1280x2560 .i8 :=
  ⟨Rect.unit (s := S1280x2560) (actOff k j) S256x256.size (actOff_inb k j), k0_pay5 (loadBlk arg1 X k j)⟩
def valuePiece (arg1 : Memref sig .tc .vmem S1280x2560 .bf16) (X : BufTy.Contents (Elt F) arg1.view.ty) (k : Fin k0_t1_loop.trips) (j : Fin 10) : View.Piece (Elt F) S1280x2560 .bf16 :=
  ⟨Rect.unit (s := S1280x2560) (actOff k j) S256x256.size (actOff_inb k j), k0_pay6 (loadBlk arg1 X k j)⟩
def planePiece (arg1 : Memref sig .tc .vmem S1280x2560 .bf16) (X : BufTy.Contents (Elt F) arg1.view.ty) (k : Fin k0_t1_loop.trips) : View.Piece (Elt F) S5x10x256 .f32 :=
  ⟨Rect.unit (s := S5x10x256) (k0_off11 k) S1x10x256.size (planeOff_inb k), scalePlane (loadBlk arg1 X k)⟩

section
variable (𝒱 : Variants) (c : Dev nD) (bd : Option 𝒱.V) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole)
  (h : k0_cond1 i = 1#1) (X : BufTy.Contents (Elt F) arg1.view.ty) (k : Fin k0_t1_loop.trips)

set_option maxHeartbeats 1000000 in
theorem trip_codes : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).1
    = ([9, 8, 7, 6, 5, 4, 3, 2, 1, 0] : List (Fin 10)).map (codePiece arg1 X k) := by
  unfold trip_k0_t1; rfl

set_option maxHeartbeats 1000000 in
theorem trip_planes : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).2.1
    = [planePiece arg1 X k] := by
  unfold trip_k0_t1; rfl

set_option maxHeartbeats 1000000 in
theorem trip_values : (trip_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X k).2.2.1
    = ([9, 8, 7, 6, 5, 4, 3, 2, 1, 0] : List (Fin 10)).map (valuePiece arg1 X k) := by
  unfold trip_k0_t1; rfl

/-- The pieces of the trips before `n`. -/
theorem loop_pieces (n : ℕ) (hn : n ≤ k0_t1_loop.trips) :
    let pb := pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X n
    (∀ p, p ∈ pb.1 ↔ ∃ (k : Fin k0_t1_loop.trips) (j : Fin 10), k.val < n ∧ p = codePiece arg1 X k j)
    ∧ (∀ p, p ∈ pb.2.1 ↔ ∃ k : Fin k0_t1_loop.trips, k.val < n ∧ p = planePiece arg1 X k)
    ∧ (∀ p, p ∈ pb.2.2 ↔ ∃ (k : Fin k0_t1_loop.trips) (j : Fin 10), k.val < n ∧ p = valuePiece arg1 X k j) := by
  induction n with
  | zero => refine ⟨fun p => ?_, fun p => ?_, fun p => ?_⟩ <;> simp [pb_k0_t1]
  | succ n ih =>
    obtain ⟨h1, h2, h3⟩ := ih (by omega)
    have all (j : Fin 10) : j ∈ ([9, 8, 7, 6, 5, 4, 3, 2, 1, 0] : List (Fin 10)) := by revert j; decide
    have split {α : Type} (P : α → Fin k0_t1_loop.trips → Prop) (p : α) :
        (P p ⟨n, hn⟩ ∨ ∃ k : Fin k0_t1_loop.trips, k.val < n ∧ P p k) ↔ ∃ k : Fin k0_t1_loop.trips, k.val < n + 1 ∧ P p k := by
      constructor
      · rintro (hp | ⟨k, hk, hp⟩)
        · exact ⟨_, Nat.lt_succ_self n, hp⟩
        · exact ⟨k, by omega, hp⟩
      · rintro ⟨k, hk, hp⟩
        by_cases e : k.val = n
        · left; rwa [show (⟨n, hn⟩ : Fin k0_t1_loop.trips) = k from Fin.ext e.symm]
        · exact Or.inr ⟨k, by omega, hp⟩
    intro pb
    have e : pb = _ := pb_k0_t1_succ (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩
    rw [e]
    refine ⟨fun p => ?_, fun p => ?_, fun p => ?_⟩
    · rw [List.mem_append, h1, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).1 = _ from trip_codes 𝒱 c bd i arg1 harg1 arg2 harg2 arg3 harg3 arg4 harg4 arg5 harg5 arg6 harg6 arg7 harg7 arg8 harg8 arg9 harg9 arg10 harg10 arg11 harg11 h X ⟨n, hn⟩]
      have := split (fun p k => ∃ j, p = codePiece arg1 X k j) p
      simp only [List.mem_map, all, true_and]
      constructor
      · intro hh
        obtain ⟨k, hk, j, rfl⟩ := this.mp (hh.imp (fun ⟨j, hj⟩ => ⟨j, hj.symm⟩) (fun ⟨k, j, hk, hp⟩ => ⟨k, hk, j, hp⟩))
        exact ⟨k, j, hk, rfl⟩
      · rintro ⟨k, j, hk, hp⟩
        exact (this.mpr ⟨k, hk, j, hp⟩).imp (fun ⟨j, hj⟩ => ⟨j, hj.symm⟩) (fun ⟨k, hk, j, hp⟩ => ⟨k, j, hk, hp⟩)
    · rw [List.mem_append, h2, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).2.1 = _ from trip_planes 𝒱 c bd i arg1 harg1 arg2 harg2 arg3 harg3 arg4 harg4 arg5 harg5 arg6 harg6 arg7 harg7 arg8 harg8 arg9 harg9 arg10 harg10 arg11 harg11 h X ⟨n, hn⟩, List.mem_singleton]
      exact split (fun p k => p = planePiece arg1 X k) p
    · rw [List.mem_append, h3, show (tripL_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) X ⟨n, hn⟩).2.2 = _ from trip_values 𝒱 c bd i arg1 harg1 arg2 harg2 arg3 harg3 arg4 harg4 arg5 harg5 arg6 harg6 arg7 harg7 arg8 harg8 arg9 harg9 arg10 harg10 arg11 harg11 h X ⟨n, hn⟩]
      have := split (fun p k => ∃ j, p = valuePiece arg1 X k j) p
      simp only [List.mem_map, all, true_and]
      constructor
      · intro hh
        obtain ⟨k, hk, j, rfl⟩ := this.mp (hh.imp (fun ⟨j, hj⟩ => ⟨j, hj.symm⟩) (fun ⟨k, j, hk, hp⟩ => ⟨k, hk, j, hp⟩))
        exact ⟨k, j, hk, rfl⟩
      · rintro ⟨k, j, hk, hp⟩
        exact (this.mpr ⟨k, hk, j, hp⟩).imp (fun ⟨j, hj⟩ => ⟨j, hj.symm⟩) (fun ⟨k, hk, j, hp⟩ => ⟨k, j, hk, hp⟩)

end

/-- Block `(k, j)` of the activations. -/
def actBlk (X : Vec F S1280x2560 .bf16) (k : Fin 5) (j : Fin 10) : Vec F S256x256 .bf16 :=
  fun z => X (ValueIdx.ix2 ⟨256 * k.val + (z 0).val, by have : (z 0).val < 256 := (z 0).isLt; omega⟩ ⟨256 * j.val + (z 1).val, by have : (z 1).val < 256 := (z 1).isLt; omega⟩)

theorem loadBlk_eq (arg1 : Memref sig .tc .vmem S1280x2560 .bf16) (harg1 : arg1.IsWhole) (x0 : Vec F S1280x2560 .bf16) (k : Fin k0_t1_loop.trips) (j : Fin 10) :
    loadBlk arg1 (harg1.unread x0) k j = actBlk x0 ⟨k.val, trip_lt k⟩ j := by
  funext z
  unfold loadBlk actBlk
  rw [View.readAt_apply, harg1.read_unread]
  congr 1
  funext a
  apply Fin.ext
  fin_cases a
  · show actOff k j 0 + 1 * (z 0).val = 256 * k.val + (z 0).val; rw [actOff_eq]; show 256 * k.val + 1 * (z 0).val = _; omega
  · show actOff k j 1 + 1 * (z 1).val = 256 * j.val + (z 1).val; rw [actOff_eq]; show 256 * j.val + 1 * (z 1).val = _; omega

/-- The codes of the whole activations. -/
def codesOf (X : Vec F S1280x2560 .bf16) : Vec F S1280x2560 .i8 :=
  fun y => k0_pay5 (actBlk X ⟨(y 0).val / 256, by have : (y 0).val < 1280 := (y 0).isLt; omega⟩ ⟨(y 1).val / 256, by have : (y 1).val < 2560 := (y 1).isLt; omega⟩)
    (ValueIdx.ix2 ⟨(y 0).val % 256, Nat.mod_lt _ (by decide)⟩ ⟨(y 1).val % 256, Nat.mod_lt _ (by decide)⟩)

/-- The rounded activations, code times scale. -/
def valuesOf (X : Vec F S1280x2560 .bf16) : Vec F S1280x2560 .bf16 :=
  fun y => k0_pay6 (actBlk X ⟨(y 0).val / 256, by have : (y 0).val < 1280 := (y 0).isLt; omega⟩ ⟨(y 1).val / 256, by have : (y 1).val < 2560 := (y 1).isLt; omega⟩)
    (ValueIdx.ix2 ⟨(y 0).val % 256, Nat.mod_lt _ (by decide)⟩ ⟨(y 1).val % 256, Nat.mod_lt _ (by decide)⟩)

/-- The scales of the whole activations, a plane per block row. -/
def scalesOf (X : Vec F S1280x2560 .bf16) : Vec F S5x10x256 .f32 :=
  fun y => scalePlane (actBlk X (y 0)) (ValueIdx.ix3 0 (y 1) (y 2))

end Cert.Kernel.Hand
-- ==== Proof.Bits.Run.lean ====
/- The kernel body run once, at a point where its conditional is not taken: the store it leaves in the output block is
   read off the run. -/
module

public import proofs.«01_k».proof.Proof.Bits.Kit
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 4004000 in
/-- The body at a point where its conditional is not taken, its three activation buffers held at `C`, `Sc`, `XQ`: they are
    left as they were, and the store into the output block is found by the run: its payload is a function of the blocks of
    the packed weights and of `XQ`. -/
def run (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) :
    { L : List (View.Piece (Elt F) S1280x512 .bf16) // ∀ (C : Vec F S1280x2560 .i8) (Sc : Vec F S5x10x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, (arg6.view.loc (c : Thread nD τ) ↦[arg6.view.set]{fullShare} arg6.view.writes (Elt F) f L)) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)) -∗ K ⟨⟩))
          ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K } := by
  refine ⟨?_, fun C Sc E K => ?run⟩
  case run =>
    simp only [cc0_q6k_q8k_linear_eq_skeleton]; unfold cc0_q6k_q8k_linear_skel
    simp only [k0_part74_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.Kernel.Hand

end
-- ==== Proof.Bits.Loop.lean ====
/- The kernel body at a point, as a triple: at the first point the loop fills the three activation buffers, and at every
   point the output block is the product of the rounded activations and the weights. -/
module

public import proofs.«01_k».proof.Proof.Bits.First
public import proofs.«01_k».proof.Proof.Bits.Quant
public import proofs.«01_k».proof.Proof.Bits.Run

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

theorem trips_eq : k0_t1_loop.trips = 5 := by decide

/-- What the body at point `i` stores into the output block, whatever the block held. -/
def outBlock (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) : Vec F S1280x512 .bf16 :=
  arg6.view.read (Elt F) (arg6.view.writes (Elt F) (harg6.unread (fun _ => Scalar.ofBits .bf16 0)) (run c i arg1 harg1 arg2 harg2 arg3 harg3 arg4 harg4 arg5 harg5 arg6 harg6 arg7 harg7 arg8 harg8 arg9 harg9 arg10 harg10 arg11 harg11 hc0 x0 x1 x2 x3 x4 XQ).1)

theorem outBlock_read (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) (f : BufTy.Contents (Elt F) arg6.view.ty) :
    arg6.view.read (Elt F) (arg6.view.writes (Elt F) f (run c i arg1 harg1 arg2 harg2 arg3 harg3 arg4 harg4 arg5 harg5 arg6 harg6 arg7 harg7 arg8 harg8 arg9 harg9 arg10 harg10 arg11 harg11 hc0 x0 x1 x2 x3 x4 XQ).1) = outBlock c i arg1 harg1 arg2 harg2 arg3 harg3 arg4 harg4 arg5 harg5 arg6 harg6 arg7 harg7 arg8 harg8 arg9 harg9 arg10 harg10 arg11 harg11 hc0 x0 x1 x2 x3 x4 XQ := by
  unfold outBlock
  have h : ∃ w, (run c i arg1 harg1 arg2 harg2 arg3 harg3 arg4 harg4 arg5 harg5 arg6 harg6 arg7 harg7 arg8 harg8 arg9 harg9 arg10 harg10 arg11 harg11 hc0 x0 x1 x2 x3 x4 XQ).1 = [⟨Rect.unit (s := S1280x512) ![0, 0] ![1280, 512] inb_S1280x512_S1280x512_0_0, w⟩] := ⟨_, rfl⟩
  obtain ⟨w, hw⟩ := h
  rw [hw]
  exact (View.read_writes_full arg6.view f inb_S1280x512_S1280x512_0_0 w []).trans (View.read_writes_full arg6.view _ inb_S1280x512_S1280x512_0_0 w []).symm

section
variable (𝒱 : Variants) (c : Dev nD) (bd : Option 𝒱.V) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole)
  (h : k0_cond1 i = 1#1) (x0 : Vec F S1280x2560 .bf16)

/-- What the loop's stores leave in this buffer, whatever it held. -/
theorem codes_written (G : BufTy.Contents (Elt F) arg7.view.ty) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).1) = codesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 1280 := (y 0).isLt
  have hy1 : (y 1).val < 2560 := (y 1).isLt
  refine View.read_writes_apply_of_pieces _ _ (codesOf x0) _ (fun p hp => ?_) y ?_
  · obtain ⟨k, j, -, rfl⟩ := (h1 p).mp hp
    intro x
    have e0 : ((codePiece arg1 (harg1.unread x0) k j).1.emb x 0).val = 256 * k.val + 1 * (x 0).val := by
      show actOff k j 0 + 1 * (x 0).val = _; rw [actOff_eq]; rfl
    have e1 : ((codePiece arg1 (harg1.unread x0) k j).1.emb x 1).val = 256 * j.val + 1 * (x 1).val := by
      show actOff k j 1 + 1 * (x 1).val = _; rw [actOff_eq]; rfl
    have hx0 : (x 0).val < 256 := (x 0).isLt
    have hx1 : (x 1).val < 256 := (x 1).isLt
    have hk := trip_lt k
    generalize (codePiece arg1 (harg1.unread x0) k j).1.emb x = z at e0 e1
    show k0_pay5 (loadBlk arg1 (harg1.unread x0) k j) x = codesOf x0 z
    rw [loadBlk_eq]
    unfold codesOf
    have a1 : (⟨k.val, trip_lt k⟩ : Fin 5) = ⟨(z 0).val / 256, by have : (z 0).val < 1280 := (z 0).isLt; omega⟩ := Fin.ext (by show k.val = (z 0).val / 256; omega)
    have a2 : j = ⟨(z 1).val / 256, by have : (z 1).val < 2560 := (z 1).isLt; omega⟩ := Fin.ext (by show j.val = (z 1).val / 256; omega)
    rw [← a1, ← a2]
    congr 1
    funext a; apply Fin.ext; fin_cases a
    · show (x 0).val = (z 0).val % 256; omega
    · show (x 1).val = (z 1).val % 256; omega
  · have hk : (y 0).val / 256 < k0_t1_loop.trips := by rw [trips_eq]; omega
    refine ⟨_, (h1 _).mpr ⟨⟨(y 0).val / 256, hk⟩, ⟨(y 1).val / 256, by omega⟩, hk, rfl⟩, ?_⟩
    refine (LoadRect.mem_set _).mpr fun a => ?_
    fin_cases a
    · refine ⟨(y 0).val % 256, Nat.mod_lt _ (by decide), ?_⟩
      show (y 0).val = actOff ⟨(y 0).val / 256, hk⟩ ⟨(y 1).val / 256, by omega⟩ 0 + 1 * ((y 0).val % 256)
      rw [actOff_eq]; show (y 0).val = 256 * ((y 0).val / 256) + 1 * ((y 0).val % 256); omega
    · refine ⟨(y 1).val % 256, Nat.mod_lt _ (by decide), ?_⟩
      show (y 1).val = actOff ⟨(y 0).val / 256, hk⟩ ⟨(y 1).val / 256, by omega⟩ 1 + 1 * ((y 1).val % 256)
      rw [actOff_eq]; show (y 1).val = 256 * ((y 1).val / 256) + 1 * ((y 1).val % 256); omega

/-- What the loop's stores leave in this buffer, whatever it held. -/
theorem values_written (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).2.2) = valuesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 1280 := (y 0).isLt
  have hy1 : (y 1).val < 2560 := (y 1).isLt
  refine View.read_writes_apply_of_pieces _ _ (valuesOf x0) _ (fun p hp => ?_) y ?_
  · obtain ⟨k, j, -, rfl⟩ := (h3 p).mp hp
    intro x
    have e0 : ((valuePiece arg1 (harg1.unread x0) k j).1.emb x 0).val = 256 * k.val + 1 * (x 0).val := by
      show actOff k j 0 + 1 * (x 0).val = _; rw [actOff_eq]; rfl
    have e1 : ((valuePiece arg1 (harg1.unread x0) k j).1.emb x 1).val = 256 * j.val + 1 * (x 1).val := by
      show actOff k j 1 + 1 * (x 1).val = _; rw [actOff_eq]; rfl
    have hx0 : (x 0).val < 256 := (x 0).isLt
    have hx1 : (x 1).val < 256 := (x 1).isLt
    have hk := trip_lt k
    generalize (valuePiece arg1 (harg1.unread x0) k j).1.emb x = z at e0 e1
    show k0_pay6 (loadBlk arg1 (harg1.unread x0) k j) x = valuesOf x0 z
    rw [loadBlk_eq]
    unfold valuesOf
    have a1 : (⟨k.val, trip_lt k⟩ : Fin 5) = ⟨(z 0).val / 256, by have : (z 0).val < 1280 := (z 0).isLt; omega⟩ := Fin.ext (by show k.val = (z 0).val / 256; omega)
    have a2 : j = ⟨(z 1).val / 256, by have : (z 1).val < 2560 := (z 1).isLt; omega⟩ := Fin.ext (by show j.val = (z 1).val / 256; omega)
    rw [← a1, ← a2]
    congr 1
    funext a; apply Fin.ext; fin_cases a
    · show (x 0).val = (z 0).val % 256; omega
    · show (x 1).val = (z 1).val % 256; omega
  · have hk : (y 0).val / 256 < k0_t1_loop.trips := by rw [trips_eq]; omega
    refine ⟨_, (h3 _).mpr ⟨⟨(y 0).val / 256, hk⟩, ⟨(y 1).val / 256, by omega⟩, hk, rfl⟩, ?_⟩
    refine (LoadRect.mem_set _).mpr fun a => ?_
    fin_cases a
    · refine ⟨(y 0).val % 256, Nat.mod_lt _ (by decide), ?_⟩
      show (y 0).val = actOff ⟨(y 0).val / 256, hk⟩ ⟨(y 1).val / 256, by omega⟩ 0 + 1 * ((y 0).val % 256)
      rw [actOff_eq]; show (y 0).val = 256 * ((y 0).val / 256) + 1 * ((y 0).val % 256); omega
    · refine ⟨(y 1).val % 256, Nat.mod_lt _ (by decide), ?_⟩
      show (y 1).val = actOff ⟨(y 0).val / 256, hk⟩ ⟨(y 1).val / 256, by omega⟩ 1 + 1 * ((y 1).val % 256)
      rw [actOff_eq]; show (y 1).val = 256 * ((y 1).val / 256) + 1 * ((y 1).val % 256); omega

/-- What the loop's stores leave in the scales' buffer, whatever it held. -/
theorem planes_written (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) k0_t1_loop.trips).2.1) = scalesOf x0 := by
  obtain ⟨h1, h2, h3⟩ := loop_pieces (F := F) 𝒱 c bd i arg1 harg1 arg2 harg2 arg3 harg3 arg4 harg4 arg5 harg5 arg6 harg6 arg7 harg7 arg8 harg8 arg9 harg9 arg10 harg10 arg11 harg11 h (harg1.unread x0) k0_t1_loop.trips le_rfl
  funext y
  have hy0 : (y 0).val < 5 := (y 0).isLt
  refine View.read_writes_apply_of_pieces _ _ (scalesOf x0) _ (fun p hp => ?_) y ?_
  · obtain ⟨k, -, rfl⟩ := (h2 p).mp hp
    intro x
    have e (a : Fin 3) : ((planePiece arg1 (harg1.unread x0) k).1.emb x a).val = (![k.val, 0, 0] : Fin 3 → Nat) a + 1 * (x a).val := by
      show k0_off11 k a + 1 * (x a).val = _; rw [k0_off11_eq]
    have e0 := e 0; have e1 := e 1; have e2 := e 2
    have hx0 : (x 0).val < 1 := (x 0).isLt
    have hk := trip_lt k
    generalize (planePiece arg1 (harg1.unread x0) k).1.emb x = z at e0 e1 e2
    simp only [Matrix.cons_val] at e0 e1 e2
    show scalePlane (loadBlk arg1 (harg1.unread x0) k) x = scalesOf x0 z
    rw [show loadBlk arg1 (harg1.unread x0) k = actBlk x0 ⟨k.val, trip_lt k⟩ from funext fun j => loadBlk_eq arg1 harg1 x0 k j]
    unfold scalesOf
    have a1 : (⟨k.val, trip_lt k⟩ : Fin 5) = z 0 := Fin.ext (by show k.val = (z 0).val; omega)
    rw [a1]
    congr 1
    funext a; apply Fin.ext; fin_cases a
    · show (x 0).val = 0; omega
    · show (x 1).val = (z 1).val; omega
    · show (x 2).val = (z 2).val; omega
  · have hk : (y 0).val < k0_t1_loop.trips := by rw [trips_eq]; omega
    refine ⟨_, (h2 _).mpr ⟨⟨(y 0).val, hk⟩, hk, rfl⟩, ?_⟩
    refine (LoadRect.mem_set _).mpr fun a => ?_
    have e : (planePiece arg1 (harg1.unread x0) ⟨(y 0).val, hk⟩).1.off = ![(y 0).val, 0, 0] := k0_off11_eq _
    fin_cases a
    · refine ⟨0, by show 0 < 1; omega, ?_⟩
      show (y 0).val = k0_off11 ⟨(y 0).val, hk⟩ 0 + 1 * 0
      rw [k0_off11_eq]; rfl
    · refine ⟨(y 1).val, (y 1).isLt, ?_⟩
      show (y 1).val = k0_off11 ⟨(y 0).val, hk⟩ 1 + 1 * (y 1).val
      rw [k0_off11_eq]; show (y 1).val = 0 + 1 * (y 1).val; omega
    · refine ⟨(y 2).val, (y 2).isLt, ?_⟩
      show (y 2).val = k0_off11 ⟨(y 0).val, hk⟩ 2 + 1 * (y 2).val
      rw [k0_off11_eq]; show (y 2).val = 0 + 1 * (y 2).val; omega

set_option maxHeartbeats 1000000 in
/-- The loop fills the three activation buffers, whatever they held. -/
theorem loop_triple (E : Set ℕ) (kk : PUnit → Prog (TpuEff nD τ sig (Elt F) Λ₀ .tc) PUnit) (Q : PUnit → sProp 𝕄) :
    iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg7 fullShare (codesOf x0) ∗ owns (c : Thread nD τ) arg8 fullShare (scalesOf x0) ∗ owns (c : Thread nD τ) arg9 fullShare (valuesOf x0)) -∗ wp frame (wpE (defs₀ (F := F)) 𝒱 c bd) E (kk ⟨⟩) Q))
      ⊢ wp frame (wpE (defs₀ (F := F)) 𝒱 c bd) E (quantLoop i arg1 harg1 arg2 harg2 arg3 harg3 arg4 harg4 arg5 harg5 arg6 harg6 arg7 harg7 arg8 harg8 arg9 harg9 arg10 harg10 arg11 harg11 h >>= kk) Q := by
  unfold owns
  iintro ⟨⟨%f0, %hf0, H0⟩, ⟨%d7, %f7, -, H7⟩, ⟨%d8, %f8, -, H8⟩, ⟨%d9, %f9, -, H9⟩, Hk⟩
  obtain rfl := harg1.eq_unread hf0
  iapply (Scf.wp_for_bind frame (wpE (defs₀ (F := F)) 𝒱 (c : Thread nD τ) bd) E k0_t1_loop.lb k0_t1_loop.ub k0_t1_loop.st (k0_t1_ok i h) () (k0_t1_body (F := F) i arg1 harg1 arg2 harg2 arg3 harg3 arg4 harg4 arg5 harg5 arg6 harg6 arg7 harg7 arg8 harg8 arg9 harg9 arg10 harg10 arg11 harg11 h (iota .tc S256x128 32 [1] iota_S256x128_d1_w32))
    (inv_k0_t1 (F := F) 𝒱 c bd i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) f7 f8 f9) (loopInv_k0_t1 (F := F) 𝒱 c bd E i arg1 harg1 arg2 harg2 arg3 harg3 arg4 harg4 arg5 harg5 arg6 harg6 arg7 harg7 arg8 harg8 arg9 harg9 arg10 harg10 arg11 harg11 h (iota .tc S256x128 32 [1] iota_S256x128_d1_w32) (harg1.unread x0) f7 f8 f9).step (kk := kk) (Q := Q)) $$ [H0 H7 H8 H9]
  · isplitl [H0]; · iexact H0
    isplitl [H7]
    · iexists _; isplitl [H7]; · iexact H7
      ipureintro; rfl
    isplitl [H8]
    · iexists _; isplitl [H8]; · iexact H8
      ipureintro; rfl
    iexists _; isplitl [H9]; · iexact H9
    ipureintro; rfl
  · iintro %acc ⟨H0, ⟨%g7, H7, %e7⟩, ⟨%g8, H8, %e8⟩, ⟨%g9, H9, %e9⟩⟩
    iapply Hk
    isplitl [H0]
    · iexists _; isplitr; · ipureintro; exact harg1.read_unread _
      iexact H0
    isplitl [H7]
    · iexists g7; isplitr; · ipureintro; rw [e7]; exact codes_written 𝒱 c bd i arg1 harg1 arg2 harg2 arg3 harg3 arg4 harg4 arg5 harg5 arg6 harg6 arg7 harg7 arg8 harg8 arg9 harg9 arg10 harg10 arg11 harg11 h x0 f7
      iexact H7
    isplitl [H8]
    · iexists g8; isplitr; · ipureintro; rw [e8]; exact planes_written 𝒱 c bd i arg1 harg1 arg2 harg2 arg3 harg3 arg4 harg4 arg5 harg5 arg6 harg6 arg7 harg7 arg8 harg8 arg9 harg9 arg10 harg10 arg11 harg11 h x0 f8
      iexact H8
    iexists g9; isplitr; · ipureintro; rw [e9]; exact values_written 𝒱 c bd i arg1 harg1 arg2 harg2 arg3 harg3 arg4 harg4 arg5 harg5 arg6 harg6 arg7 harg7 arg8 harg8 arg9 harg9 arg10 harg10 arg11 harg11 h x0 f9
    iexact H9

end

/-- The body where its conditional is not taken. -/
theorem later (c : Dev nD) (i : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (hc0 : ¬cond0_0 i)
    (x0 : Vec F S1280x2560 .bf16) (x1 : Vec F S1280x512 .i8) (x2 : Vec F S640x512 .i8) (x3 : Vec F S10x16x512 .i8) (x4 : Vec F S10x512 .i16) (XQ : Vec F S1280x2560 .bf16) (C : Vec F S1280x2560 .i8) (Sc : Vec F S5x10x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock c i arg1 harg1 arg2 harg2 arg3 harg3 arg4 harg4 arg5 harg5 arg6 harg6 arg7 harg7 arg8 harg8 arg9 harg9 arg10 harg10 arg11 harg11 hc0 x0 x1 x2 x3 x4 XQ) ∗ owns (c : Thread nD τ) arg7 fullShare C ∗ owns (c : Thread nD τ) arg8 fullShare Sc ∗ owns (c : Thread nD τ) arg9 fullShare XQ ∗ (∃ d, owns (c : Thread nD τ) arg10 fullShare d) ∗ (∃ d, owns (c : Thread nD τ) arg11 fullShare d)) -∗ K ⟨⟩))
      ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((run c i arg1 harg1 arg2 harg2 arg3 harg3 arg4 harg4 arg5 harg5 arg6 harg6 arg7 harg7 arg8 harg8 arg9 harg9 arg10 harg10 arg11 harg11 hc0 x0 x1 x2 x3 x4 XQ).2 C Sc E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, ⟨%f, H6⟩, H7, H8, H9, H10, H11⟩
  iapply Hk
  isplitl [H1]; · iexact H1
  isplitl [H2]; · iexact H2
  isplitl [H3]; · iexact H3
  isplitl [H4]; · iexact H4
  isplitl [H5]; · iexact H5
  isplitl [H6]
  · unfold owns
    iexists _; isplitr
    · ipureintro
      exact outBlock_read c i arg1 harg1 arg2 harg2 arg3 harg3 arg4 harg4 arg5 harg5 arg6 harg6 arg7 harg7 arg8 harg8 arg9 harg9 arg10 harg10 arg11 harg11 hc0 x0 x1 x2 x3 x4 XQ f
    · iexact H6
  isplitl [H7]; · iexact H7
  isplitl [H8]; · iexact H8
  isplitl [H9]; · iexact H9
  isplitl [H10]; · iexact H10
  iexact H11

/-- The body at the first point. -/
theorem first (c : Dev nD) (i i' : grid0.Coords) (arg1 : Memref sig .tc .vmem S1280x2560 .bf16) (harg1 : arg1.IsWhole) (arg2 : Memref sig .tc .vmem S1280x512 .i8) (harg2 : arg2.IsWhole) (arg3 : Memref sig .tc .vmem S640x512 .i8) (harg3 : arg3.IsWhole) (arg4 : Memref sig .tc .vmem S10x16x512 .i8) (harg4 : arg4.IsWhole) (arg5 : Memref sig .tc .vmem S10x512 .i16) (harg5 : arg5.IsWhole) (arg6 : Memref sig .tc .vmem S1280x512 .bf16) (harg6 : arg6.IsWhole) (arg7 : Memref sig .tc .vmem S1280x2560 .i8) (harg7 : arg7.IsWhole) (arg8 : Memref sig .tc .vmem S5x10x256 .f32) (harg8 : arg8.IsWhole) (arg9 : Memref sig .tc .vmem S1280x2560 .bf16) (harg9 : arg9.IsWhole) (arg10 : Memref sig .tc .vmem S2560x512 .bf16) (harg10 : arg10.IsWhole) (arg11 : Memref sig .tc .vmem S160x512 .i32) (harg11 : arg11.IsWhole) (hc0 : cond0_0 i) (hc1 : ¬cond0_0 i')
    (x0 : Vec F S1280x2560 .bf16) (x1 : Vec F S1280x512 .i8) (x2 : Vec F S640x512 .i8) (x3 : Vec F S10x16x512 .i8) (x4 : Vec F S10x512 .i16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlock c i' arg1 harg1 arg2 harg2 arg3 harg3 arg4 harg4 arg5 harg5 arg6 harg6 arg7 harg7 arg8 harg8 arg9 harg9 arg10 harg10 arg11 harg11 hc1 x0 x1 x2 x3 x4 (valuesOf x0)) ∗ owns (c : Thread nD τ) arg7 fullShare (codesOf x0) ∗ owns (c : Thread nD τ) arg8 fullShare (scalesOf x0) ∗ owns (c : Thread nD τ) arg9 fullShare (valuesOf x0) ∗ (∃ d, owns (c : Thread nD τ) arg10 fullShare d) ∗ (∃ d, owns (c : Thread nD τ) arg11 fullShare d)) -∗ K ⟨⟩))
      ⊢ wp frame (wpE (defs₀ (F := F)) Variants.none c none) E (cc0_q6k_q8k_linear i arg1 harg1 arg2 harg2 arg3 harg3 arg4 harg4 arg5 harg5 arg6 harg6 arg7 harg7 arg8 harg8 arg9 harg9 arg10 harg10 arg11 harg11) K := by
  rw [body_first i i' arg1 harg1 arg2 harg2 arg3 harg3 arg4 harg4 arg5 harg5 arg6 harg6 arg7 harg7 arg8 harg8 arg9 harg9 arg10 harg10 arg11 harg11 hc0 hc1]
  iintro ⟨H1, H2, H3, H4, H5, H6, H7, H8, H9, H10, H11, Hk⟩
  iapply (loop_triple Variants.none c none i arg1 harg1 arg2 harg2 arg3 harg3 arg4 harg4 arg5 harg5 arg6 harg6 arg7 harg7 arg8 harg8 arg9 harg9 arg10 harg10 arg11 harg11 hc0 x0 E _ K)
  isplitl [H1]; · iexact H1
  isplitl [H7]; · iexact H7
  isplitl [H8]; · iexact H8
  isplitl [H9]; · iexact H9
  iintro ⟨H1, H7, H8, H9⟩
  iapply (later c i' arg1 harg1 arg2 harg2 arg3 harg3 arg4 harg4 arg5 harg5 arg6 harg6 arg7 harg7 arg8 harg8 arg9 harg9 arg10 harg10 arg11 harg11 hc1 x0 x1 x2 x3 x4 (valuesOf x0) (codesOf x0) (scalesOf x0) E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hk

end Cert.Kernel.Hand
-- ==== Proof.Bits.Launch.lean ====
/- The proof data of the kernel's pipeline, the body's obligation at every point, the launch and the frame. -/
module

public import proofs.«01_k».proof.Proof.Bits.Loop
public import Idealize.ShloMosaic.Lib.Claim
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The activations, which every point reads whole. -/
abbrev acts (c : Dev nD) : Vec F S1280x2560 .bf16 := iblk m c 0 ⟨0, by decide⟩

theorem acts_eq (c : Dev nD) (t : Fin cfg0.N) : (iblk m c 0 t : Vec F S1280x2560 .bf16) = acts m c := rfl

/-- The point whose body, after the loop where there is one, point `t` runs. -/
def bodyPoint (t : Fin cfg0.N) : Fin cfg0.N := if t.val = 0 then ⟨1, by decide⟩ else t
theorem bodyPoint_not_first (t : Fin cfg0.N) : ¬ cond0_0 (grid0.coords (bodyPoint t)) := fun h => by
  have h' := (hcond0_0 _).mp h
  have hN : t.val < 19 := lt_of_lt_of_eq t.isLt (show cfg0.N = 19 from N_0)
  unfold bodyPoint at h'
  split at h'
  · exact absurd h' (by decide)
  · omega

/-- What a point leaves in the output block. -/
def outAt (c : Dev nD) (t : Fin cfg0.N) : Vec F S1280x512 .bf16 :=
  outBlock c (grid0.coords (bodyPoint t)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (bodyPoint_not_first t) (iblk m c 0 t) (iblk m c 1 t) (iblk m c 2 t) (iblk m c 3 t) (iblk m c 4 t) (valuesOf (acts m c))

theorem outAt_later (c : Dev nD) (t : Fin cfg0.N) (h0 : t.val ≠ 0) (hc : ¬ cond0_0 (grid0.coords t)) :
    outAt m c t = outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (valuesOf (acts m c)) := by
  have h (p : Fin cfg0.N) (hp : ¬ cond0_0 (grid0.coords p)) (e : p = t) :
      outBlock c (grid0.coords p) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hp (iblk m c 0 t) (iblk m c 1 t) (iblk m c 2 t) (iblk m c 3 t) (iblk m c 4 t) (valuesOf (acts m c)) = outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (valuesOf (acts m c)) := by
    subst e; rfl
  exact h (bodyPoint t) (bodyPoint_not_first t) (if_neg h0)

/-- The invariant between points: from the second point on the first scratch buffer holds the rounded activations. -/
def between (c : Dev nD) (t : Fin (cfg0.N + 1)) : sProp 𝕄 :=
  if t.val = 0 then Pipeline.ΦA spec0 c
  else iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r))

/-- The proof data: the inputs stay; the output block is `outAt`; codes and scales are those of the whole activations at
    every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => codesOf (acts m c)
    | ⟨7, _⟩ => scalesOf (acts m c)
  Φ t := between m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem after0_6 (c : Dev nD) (t : Fin cfg0.N) : (dats m 0 c).after 6 t = codesOf (acts m c) := by dsimp only [dats]
theorem after0_7 (c : Dev nD) (t : Fin cfg0.N) : (dats m 0 c).after 7 t = scalesOf (acts m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem idle0_6 (t : Fin cfg0.N) (h : t.val ≠ 0) : cfg0.idle 6 (grid0.coords t) = true := by
  have hN : t.val < 19 := lt_of_lt_of_eq t.isLt (show cfg0.N = 19 from N_0)
  have h' : ¬ k0_cond1 (grid0.coords t) = 1#1 := fun hh => h (by have := (hcond0_0 t).mp hh; omega)
  show (!(k0_cond1 (grid0.coords t) == 1#1)) = true
  simp [h']

theorem live0_6 (t : Fin cfg0.N) (h : t.val = 0) : cfg0.idle 6 (grid0.coords t) = false := by
  have h' : k0_cond1 (grid0.coords t) = 1#1 := (hcond0_0 t).mpr (by omega)
  show (!(k0_cond1 (grid0.coords t) == 1#1)) = false
  simp [h']

theorem fresh0_6 (n : ℕ) (hn : n ≤ cfg0.N) : cfg0.fresh 6 n = decide (n = 0 ∨ n = 19) := by
  refine Pipeline.Cfg.fresh_tab cfg0 6 (fun n => decide (n = 0 ∨ n = 19)) rfl (fun t => ?_) n hn
  have hN : t.val < 19 := lt_of_lt_of_eq t.isLt (show cfg0.N = 19 from N_0)
  have hf := flush0_6 t
  have hf' : (cfg0.win 6).flush t = decide (t.val % 19 = 18) := by
    cases h : (cfg0.win 6).flush t
    · exact (decide_eq_false fun hh => by rw [hf.mpr hh] at h; cases h).symm
    · exact (decide_eq_true (hf.mp h)).symm
  rw [hf']
  by_cases h : t.val = 0
  · rw [show cfg0.idle 6 (cfg0.grid.coords t) = false from live0_6 t h]; simp [h]
  · rw [show cfg0.idle 6 (cfg0.grid.coords t) = true from idle0_6 t h]
    have e1 : (t.val = 0 ∨ t.val = 19) ↔ False := ⟨fun hh => by omega, False.elim⟩
    have e2 : (t.val + 1 = 0 ∨ t.val + 1 = 19) ↔ t.val % 19 = 18 := by omega
    simp only [e1, e2, decide_false, Bool.and_false, Bool.or_false]

/-- After the first point the buffer holds what the first point left. -/
theorem before0_6 (c : Dev nD) (t : Fin cfg0.N) (h : t.val ≠ 0) (d) : (dats m 0 c).before 6 t d = codesOf (acts m c) := by
  have hN : t.val < 19 := lt_of_lt_of_eq t.isLt (show cfg0.N = 19 from N_0)
  rw [(dats m 0 c).before_out_traj 6 rfl (fun _ _ => rfl) (fun _ _ _ _ => rfl) t.val t rfl d, fresh0_6 t.val (Nat.le_of_lt t.isLt),
    if_neg (by simp; omega), after0_6]

theorem idle0_7 (t : Fin cfg0.N) (h : t.val ≠ 0) : cfg0.idle 7 (grid0.coords t) = true := by
  have hN : t.val < 19 := lt_of_lt_of_eq t.isLt (show cfg0.N = 19 from N_0)
  have h' : ¬ k0_cond1 (grid0.coords t) = 1#1 := fun hh => h (by have := (hcond0_0 t).mp hh; omega)
  show (!(k0_cond1 (grid0.coords t) == 1#1)) = true
  simp [h']

theorem live0_7 (t : Fin cfg0.N) (h : t.val = 0) : cfg0.idle 7 (grid0.coords t) = false := by
  have h' : k0_cond1 (grid0.coords t) = 1#1 := (hcond0_0 t).mpr (by omega)
  show (!(k0_cond1 (grid0.coords t) == 1#1)) = false
  simp [h']

theorem fresh0_7 (n : ℕ) (hn : n ≤ cfg0.N) : cfg0.fresh 7 n = decide (n = 0 ∨ n = 19) := by
  refine Pipeline.Cfg.fresh_tab cfg0 7 (fun n => decide (n = 0 ∨ n = 19)) rfl (fun t => ?_) n hn
  have hN : t.val < 19 := lt_of_lt_of_eq t.isLt (show cfg0.N = 19 from N_0)
  have hf := flush0_7 t
  have hf' : (cfg0.win 7).flush t = decide (t.val % 19 = 18) := by
    cases h : (cfg0.win 7).flush t
    · exact (decide_eq_false fun hh => by rw [hf.mpr hh] at h; cases h).symm
    · exact (decide_eq_true (hf.mp h)).symm
  rw [hf']
  by_cases h : t.val = 0
  · rw [show cfg0.idle 7 (cfg0.grid.coords t) = false from live0_7 t h]; simp [h]
  · rw [show cfg0.idle 7 (cfg0.grid.coords t) = true from idle0_7 t h]
    have e1 : (t.val = 0 ∨ t.val = 19) ↔ False := ⟨fun hh => by omega, False.elim⟩
    have e2 : (t.val + 1 = 0 ∨ t.val + 1 = 19) ↔ t.val % 19 = 18 := by omega
    simp only [e1, e2, decide_false, Bool.and_false, Bool.or_false]

/-- After the first point the buffer holds what the first point left. -/
theorem before0_7 (c : Dev nD) (t : Fin cfg0.N) (h : t.val ≠ 0) (d) : (dats m 0 c).before 7 t d = scalesOf (acts m c) := by
  have hN : t.val < 19 := lt_of_lt_of_eq t.isLt (show cfg0.N = 19 from N_0)
  rw [(dats m 0 c).before_out_traj 7 rfl (fun _ _ => rfl) (fun _ _ _ _ => rfl) t.val t rfl d, fresh0_7 t.val (Nat.le_of_lt t.isLt),
    if_neg (by simp; omega), after0_7]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_6 (c : Dev nD) (t : Fin cfg0.N) :
    owns (c : Thread nD τ) (ms0_6 t) fullShare (codesOf (acts m c)) ⊢ ((dats m 0 c).leavesExact 6 t : sProp 𝕄) := by
  by_cases h : t.val = 0
  · rw [show (dats m 0 c).leavesExact 6 t = owns (c : Thread nD τ) (ms0_6 t) fullShare ((dats m 0 c).after 6 t) from by
      unfold Dat.leavesExact; rw [show cfg0.idle 6 (cfg0.grid.coords t) = false from live0_6 t h], after0_6]
  · cases hf : (cfg0.win 6).flush t
    · rw [(dats m 0 c).leavesExact_idle 6 t (idle0_6 t h) hf]
      simp only [before0_6 m c t h]
      iintro H; iexists (codesOf (acts m c)); iexact H
    · rw [show (dats m 0 c).leavesExact 6 t = owns (c : Thread nD τ) (ms0_6 t) fullShare ((dats m 0 c).after 6 t) from by
        unfold Dat.leavesExact; rw [show cfg0.idle 6 (cfg0.grid.coords t) = true from idle0_6 t h, hf], after0_6]

theorem leaves0_7 (c : Dev nD) (t : Fin cfg0.N) :
    owns (c : Thread nD τ) (ms0_7 t) fullShare (scalesOf (acts m c)) ⊢ ((dats m 0 c).leavesExact 7 t : sProp 𝕄) := by
  by_cases h : t.val = 0
  · rw [show (dats m 0 c).leavesExact 7 t = owns (c : Thread nD τ) (ms0_7 t) fullShare ((dats m 0 c).after 7 t) from by
      unfold Dat.leavesExact; rw [show cfg0.idle 7 (cfg0.grid.coords t) = false from live0_7 t h], after0_7]
  · cases hf : (cfg0.win 7).flush t
    · rw [(dats m 0 c).leavesExact_idle 7 t (idle0_7 t h) hf]
      simp only [before0_7 m c t h]
      iintro H; iexists (scalesOf (acts m c)); iexact H
    · rw [show (dats m 0 c).leavesExact 7 t = owns (c : Thread nD τ) (ms0_7 t) fullShare ((dats m 0 c).after 7 t) from by
        unfold Dat.leavesExact; rw [show cfg0.idle 7 (cfg0.grid.coords t) = true from idle0_7 t h, hf], after0_7]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  have hN : t.val < 19 := lt_of_lt_of_eq t.isLt (show cfg0.N = 19 from N_0)
  rw [show (dats m 0 c).Φ t.succ = iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r)) from
    (show between m c t.succ = _ from if_neg (Nat.succ_ne_zero _))]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  have hnf := bodyPoint_not_first t
  by_cases h0 : t.val = 0
  · unfold outAt
    rw [show (dats m 0 c).Φ t.castSucc = Pipeline.ΦA spec0 c from (show between m c t.castSucc = _ from if_pos h0), PhiA0_eq]
    have hc : cond0_0 (grid0.coords t) := (hcond0_0 t).mpr (by omega)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) (grid0.coords (bodyPoint t)) _ _ _ _ _ _ _ _ _ _ _ _ _ _ _ _ _ _ _ _ _ _ hc hnf (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7
  · rw [show (dats m 0 c).Φ t.castSucc = iprop(iprop(owns (c : Thread nD τ) scM0_0 fullShare (valuesOf (acts m c)) ∗ (∃ d, owns (c : Thread nD τ) scM0_1 fullShare d) ∗ (∃ d, owns (c : Thread nD τ) scM0_2 fullShare d)) ∗ (∃ r, prngReg c r)) from
      (show between m c t.castSucc = _ from if_neg h0)]
    simp only [before0_6 m c t h0, before0_7 m c t h0]
    have hc : ¬ cond0_0 (grid0.coords t) := fun h => h0 (by have := (hcond0_0 t).mp h; omega)
    rw [outAt_later m c t h0 hc]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ _ _ _ _ hc (iblk m c 0 t) (iblk m c 1 t) (iblk m c 2 t) (iblk m c 3 t) (iblk m c 4 t) (valuesOf (acts m c)) (codesOf (acts m c)) (scalesOf (acts m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem between_last (c : Dev nD) : between m c (Fin.last cfg0.N) ⊢ (Pipeline.ΦA spec0 c : sProp 𝕄) := by
  rw [PhiA0_eq, show between m c (Fin.last cfg0.N) = _ from if_neg (by show ¬ cfg0.N = 0; decide)]
  iintro ⟨⟨HS0, HS1, HS2⟩, Hg⟩
  isplitl [HS0 HS1 HS2]
  · isplitl [HS0]; · iexists _; iexact HS0
    isplitl [HS1]; · iexact HS1
    iexact HS2
  iexact Hg

set_option backward.isDefEq.respectTransparency.types false in
set_option maxHeartbeats 800000 in
/-- The launch: every final state has the pipeline's arrays at what the proof data say, and no semaphore raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Pipeline.ΦA spec0 c from (show between m c 0 = _ from if_pos rfl)])
    (hout := fun c => between_last m c)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Hand
-- ==== Proof.Result.lean ====
/- What the three result arrays hold after the run, each element as a function of the argument arrays' blocks. -/
module

public import proofs.«01_k».proof.Proof.Launch
public import Idealize.ShloMosaic.Lib.Pipeline.ValueKit.Geometry
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem index5 : ∀ t : Fin cfg0.N, win0_5.index t = ![0, t.val] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0, 0] := (by decide +kernel : ∀ t : Fin grid0.N, _)

/-- The point whose block holds column `n`. -/
def pointOf (n : Fin 9728) : Fin cfg0.N := ⟨n.val / 512, by rw [show cfg0.N = 19 from N_0]; have := n.isLt; omega⟩

/-- The whole output array. -/
def outOf (c : Dev nD) : Vec F S1280x9728 .bf16 :=
  fun i => outAt m c (pointOf (i 1)) (ValueIdx.ix2 (i 0) ⟨(i 1).val % 512, Nat.mod_lt _ (by decide)⟩)

theorem final5 (c : Dev nD) : (dats m 0 c).arrAt 5 cfg0.N = outOf m c := by
  refine (dats m 0 c).arrAt_eq_of_covers 5 _ (by decide +kernel) fun t hf y => ?_
  blk_simp
  rw [after0_5]
  unfold outOf
  have hy : (y 1).val < 512 := (y 1).isLt
  have e1 : (((win0_5.blk t).view.emb y) 1).val = t.val * 512 + (y 1).val := by blk_simp [index5]; try simp
  have e0 : (((win0_5.blk t).view.emb y) 0).val = (y 0).val := by blk_simp [index5]; try simp
  have ep : pointOf (((win0_5.blk t).view.emb y) 1) = t := Fin.ext (by show (((win0_5.blk t).view.emb y) 1).val / 512 = t.val; rw [e1]; omega)
  show outAt m c t y = outAt m c (pointOf (((win0_5.blk t).view.emb y) 1)) _
  rw [ep]
  congr 1
  funext a
  fin_cases a
  · exact Fin.ext e0.symm
  · exact Fin.ext (by show (y 1).val = (((win0_5.blk t).view.emb y) 1).val % 512; rw [e1]; omega)

theorem final6 (c : Dev nD) : (dats m 0 c).arrAt 6 cfg0.N = codesOf (acts m c) := by
  refine (dats m 0 c).arrAt_eq_of_covers 6 _ (by decide +kernel) fun t hf y => ?_
  blk_simp
  rw [after0_6]
  congr 1
  funext a
  fin_cases a <;> exact Fin.ext (by blk_simp [index6]; try simp)

theorem final7 (c : Dev nD) : (dats m 0 c).arrAt 7 cfg0.N = scalesOf (acts m c) := by
  refine (dats m 0 c).arrAt_eq_of_covers 7 _ (by decide +kernel) fun t hf y => ?_
  blk_simp
  rw [after0_7]
  congr 1
  funext a
  fin_cases a <;> exact Fin.ext (by blk_simp [index7]; try simp)

/-- The core's buffers when the kernel is left. -/
abbrev exitV (c : Dev nD) : Valuation τ sig (Elt F) :=
  Pipeline.withArrays spec0 c (V0 m c) fun w => (dats m 0 c).arrAt w cfg0.N

theorem exit5 (c : Dev nD) : exitV m c (Proc.devRef .tc main_v7_0) = outOf m c :=
  (Pipeline.withArrays_arr spec0 launch0.win.arr_inj c (V0 m c) _ 5).trans (final5 m c)
theorem exit6 (c : Dev nD) : exitV m c (Proc.devRef .tc main_v7_1) = codesOf (acts m c) :=
  (Pipeline.withArrays_arr spec0 launch0.win.arr_inj c (V0 m c) _ 6).trans (final6 m c)
theorem exit7 (c : Dev nD) : exitV m c (Proc.devRef .tc main_v7_2) = scalesOf (acts m c) :=
  (Pipeline.withArrays_arr spec0 launch0.win.arr_inj c (V0 m c) _ 7).trans (final7 m c)

theorem tail8 (V0 : Valuation τ sig (Elt F)) :
    StableHlo.after (List.flatten [hostOps1]) V0 (Proc.devRef .tc main_v8) = shapeCast S5x256x9728 (V0 (Proc.devRef .tc main_v7_0)) shapeCasts_S1280x9728_S5x256x9728 := by
  simp only [hostOps1, List.flatten_cons, List.flatten_nil, List.append_nil, List.cons_append, List.nil_append]
  after_results_simp <;> rfl
theorem tail9 (V0 : Valuation τ sig (Elt F)) :
    StableHlo.after (List.flatten [hostOps1]) V0 (Proc.devRef .tc main_v9) = shapeCast S5x256x2560 (V0 (Proc.devRef .tc main_v7_1)) shapeCasts_S1280x2560_S5x256x2560 := by
  simp only [hostOps1, List.flatten_cons, List.flatten_nil, List.append_nil, List.cons_append, List.nil_append]
  after_results_simp <;> rfl
theorem tail10 (V0 : Valuation τ sig (Elt F)) :
    StableHlo.after (List.flatten [hostOps1]) V0 (Proc.devRef .tc main_v10) = transpose S5x256x10 [0, 2, 1] (V0 (Proc.devRef .tc main_v7_2)) transposes_S5x10x256_S5x256x10_0_2_1 := by
  simp only [hostOps1, List.flatten_cons, List.flatten_nil, List.append_nil, List.cons_append, List.nil_append]
  after_results_simp <;> rfl

/-- The run with the three results named. -/
theorem run_results : θ_run defs (onTc (τ := τ) (main (F := F))) ⟨m, fun _ => 0, ρ⟩ fun r => ∀ c : Dev nD,
    r.2.mem ((c.tc : Thread nD τ).loc main_v8) = shapeCast S5x256x9728 (outOf m c) shapeCasts_S1280x9728_S5x256x9728
    ∧ r.2.mem ((c.tc : Thread nD τ).loc main_v9) = shapeCast S5x256x2560 (codesOf (acts m c)) shapeCasts_S1280x2560_S5x256x2560
    ∧ r.2.mem ((c.tc : Thread nD τ).loc main_v10) = transpose S5x256x10 [0, 2, 1] (scalesOf (acts m c)) transposes_S5x10x256_S5x256x10_0_2_1
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨
    ((h c).2 main_v8 (by decide)).trans ((tail8 (exitV m c)).trans (by rw [exit5])),
    ((h c).2 main_v9 (by decide)).trans ((tail9 (exitV m c)).trans (by rw [exit6])),
    ((h c).2 main_v10 (by decide)).trans ((tail10 (exitV m c)).trans (by rw [exit7])),
    ((h c).2 main_arg0 (by decide)).trans (W_main_arg0 m (dats m) c),
    ((h c).2 main_arg1 (by decide)).trans (W_main_arg1 m (dats m) c),
    ((h c).2 main_arg2 (by decide)).trans (W_main_arg2 m (dats m) c),
    ((h c).2 main_arg3 (by decide)).trans (W_main_arg3 m (dats m) c),
    ((h c).2 main_arg4 (by decide)).trans (W_main_arg4 m (dats m) c)⟩) (run_main m ρ)

end Cert.KernelIdeal.Hand
-- ==== Proof.Terms.lean ====
/- The terms of the reference's results, cut into named pieces: the scales, the codes, the rounded activations, the six-bit
   codes of the weights and the weights. -/
module

public import proofs.«01_k».proof.Proof.Gen.ReferenceIdeal.Run
public import Idealize.ShloMosaic.PureOps.Ideal

@[expose] public section

set_option maxRecDepth 16384

noncomputable section

namespace Cert.Math

open Idealize.ShloMosaic
open Cert.ReferenceIdeal Cert.ReferenceIdeal.Gen

variable {F : FTy → Type} [FloatOps F]

/-- The activations, block by block. -/
def refBlocks (x : FVec F S5x256x2560 .bf16) : FVec F S5x256x10x256 .f32 :=
  shapeCast _ (extf .f32 x bitsLt_bf16_f32) shapeCasts_S5x256x2560_S5x256x10x256

/-- The largest magnitude of each block. -/
def refAmax (x : FVec F S5x256x10x256 .f32) : FVec F S5x256x10 .f32 :=
  Host.reduce FloatOps.maximumf (Host.absf x) (constant S_ .f32 0xFF800000#32) reducesTo_S5x256x10x256_S5x256x10_d3 h_S_

/-- A block's scale from its largest magnitude. -/
def refScaleOf (a : FVec F S5x256x10 .f32) : FVec F S5x256x10 .f32 :=
  select (cmpf .oeq a (broadcastInDim S5x256x10 ![] bcast_S_S5x256x10 (constant S_ .f32 0x00000000#32))) (broadcastInDim S5x256x10 ![] bcast_S_S5x256x10 (id (constant S_ .f32 0x3F800000#32))) (Host.divf a (broadcastInDim S5x256x10 ![] bcast_S_S5x256x10 (constant S_ .f32 0x42FE0000#32)))

/-- The reference's scales. -/
def refScales (x : FVec F S5x256x2560 .bf16) : FVec F S5x256x10 .f32 := refScaleOf (refAmax (refBlocks x))

/-- The rounded and clipped activations, before they are cut to eight bits, given the scales. -/
def refClip (x : FVec F S5x256x10x256 .f32) (a : FVec F S5x256x10 .f32) : FVec F S5x256x10x256 .f32 :=
  minimumf (broadcastInDim S5x256x10x256 ![] bcast_S_S5x256x10x256 (sitofp .f32 (constantI S_ 32 127#32))) (maximumf (broadcastInDim S5x256x10x256 ![] bcast_S_S5x256x10x256 (sitofp .f32 (constantI S_ 32 4294967169#32))) (Host.roundeven (Host.divf x (broadcastInDim S5x256x10x256 ![0, 1, 2, 3] bcast_S5x256x10x1_S5x256x10x256_0_1_2_3 (broadcastInDim S5x256x10x1 ![0, 1, 2] bcast_S5x256x10_S5x256x10x1_0_1_2 a)))))

/-- The reference's codes, block by block. -/
def refCodes (x : FVec F S5x256x2560 .bf16) : IVec S5x256x10x256 8 := trunci 8 (fptosi 32 (refClip (refBlocks x) (refScales x))) natLt_8_32

/-- The reference's rounded activations, from the codes and the scales. -/
def refValues (codes : IVec S5x256x10x256 8) (a : FVec F S5x256x10 .f32) : FVec F S5x256x2560 .bf16 :=
  shapeCast _ (mulf (sitofp .bf16 (extsi 32 codes natLt_8_32)) (broadcastInDim S5x256x10x256 ![0, 1, 2, 3] bcast_S5x256x10x1_S5x256x10x256_0_1_2_3 (broadcastInDim S5x256x10x1 ![0, 1, 2] bcast_S5x256x10_S5x256x10x1_0_1_2 (truncf .bf16 a bitsLt_bf16_f32)))) shapeCasts_S5x256x10x256_S5x256x2560

/-- The low nibbles of the weights' codes. -/
def refLow (ql : IVec S9728x10x2x64 8) : IVec S9728x10x2x4x32 32 :=
  shapeCast _ (andi (Host.shrsi (broadcastInDim S9728x10x2x2x2x32 ![0, 1, 2, 3, 4, 5] bcast_S9728x10x2x1x2x32_S9728x10x2x2x2x32_0_1_2_3_4_5 (shapeCast _ (extui 32 ql natLt_8_32) shapeCasts_S9728x10x2x64_S9728x10x2x1x2x32)) (broadcastInDim S9728x10x2x2x2x32 ![0, 1, 2, 3, 4, 5] bcast_S1x1x1x2x1x1_S9728x10x2x2x2x32_0_1_2_3_4_5 (muli (iotaInDim S1x1x1x2x1x1 32 3) (broadcastInDim S1x1x1x2x1x1 ![] bcast_S_S1x1x1x2x1x1 (constantI S_ 32 4#32))))) (broadcastInDim S9728x10x2x2x2x32 ![] bcast_S_S9728x10x2x2x2x32 (constantI S_ 32 15#32))) shapeCasts_S9728x10x2x2x2x32_S9728x10x2x4x32

/-- The high bits of the weights' codes, in their places. -/
def refHigh (qh : IVec S9728x10x2x32 8) : IVec S9728x10x2x4x32 32 :=
  Host.shli (andi (Host.shrsi (broadcastInDim S9728x10x2x4x32 ![0, 1, 2, 3, 4] bcast_S9728x10x2x1x32_S9728x10x2x4x32_0_1_2_3_4 (broadcastInDim S9728x10x2x1x32 ![0, 1, 2, 4] bcast_S9728x10x2x32_S9728x10x2x1x32_0_1_2_4 (extui 32 qh natLt_8_32))) (broadcastInDim S9728x10x2x4x32 ![0, 1, 2, 3, 4] bcast_S1x1x1x4x1_S9728x10x2x4x32_0_1_2_3_4 (muli (iotaInDim S1x1x1x4x1 32 3) (broadcastInDim S1x1x1x4x1 ![] bcast_S_S1x1x1x4x1 (constantI S_ 32 2#32))))) (broadcastInDim S9728x10x2x4x32 ![] bcast_S_S9728x10x2x4x32 (constantI S_ 32 3#32))) (broadcastInDim S9728x10x2x4x32 ![] bcast_S_S9728x10x2x4x32 (constantI S_ 32 4#32))

/-- The weights' codes less 32. -/
def refQ (low high : IVec S9728x10x2x4x32 32) : FVec F S9728x10x2x4x32 .bf16 :=
  subf (sitofp .bf16 (ori low high)) (broadcastInDim S9728x10x2x4x32 ![] bcast_S_S9728x10x2x4x32 (constant S_ .bf16 0x4200#16))

/-- The weights' scales. -/
def refS (d : FVec F S9728x10 .f32) (sc : IVec S9728x10x16 8) : FVec F S9728x10x16 .bf16 :=
  truncf .bf16 (mulf (broadcastInDim S9728x10x16 ![0, 1, 2] bcast_S9728x10x1_S9728x10x16_0_1_2 (broadcastInDim S9728x10x1 ![0, 1] bcast_S9728x10_S9728x10x1_0_1 d)) (sitofp .f32 (extsi 32 sc natLt_8_32))) bitsLt_bf16_f32

/-- The weights, from the codes and the scales. -/
def refW (q : FVec F S9728x10x2x4x32 .bf16) (s : FVec F S9728x10x16 .bf16) : FVec F S9728x2560 .bf16 :=
  shapeCast _ (mulf (shapeCast _ q shapeCasts_S9728x10x2x4x32_S9728x10x2x4x2x16) (broadcastInDim S9728x10x2x4x2x16 ![0, 1, 2, 3, 4, 5] bcast_S9728x10x2x4x2x1_S9728x10x2x4x2x16_0_1_2_3_4_5 (broadcastInDim S9728x10x2x4x2x1 ![0, 1, 2, 3, 4] bcast_S9728x10x2x4x2_S9728x10x2x4x2x1_0_1_2_3_4 (shapeCast _ s shapeCasts_S9728x10x16_S9728x10x2x4x2)))) shapeCasts_S9728x10x2x4x2x16_S9728x2560

/-- The product. -/
def refY (a : FVec F S5x256x2560 .bf16) (w : FVec F S9728x2560 .bf16) : FVec F S5x256x9728 .bf16 :=
  truncf .bf16 (Host.dotGeneral dot_S5x256x2560_S9728x2560_S5x256x9728_2_1_01_0_n_n none a w) bitsLt_bf16_f32

open Idealize.SL.Sem Idealize.ShloMosaic.TcCoe

variable (m : (ℓ : Loc nD τ sig) → Buf (Elt F) ℓ)

theorem res_eq (c : Dev nD) : Value.res_main_v64 m c
    = refY (refValues (refCodes (m ((c.tc : Thread nD τ).loc main_arg0))) (refScales (m ((c.tc : Thread nD τ).loc main_arg0))))
        (refW (refQ (refLow (m ((c.tc : Thread nD τ).loc main_arg1))) (refHigh (m ((c.tc : Thread nD τ).loc main_arg2))))
          (refS (Value.reg_main_v23 m c) (m ((c.tc : Thread nD τ).loc main_arg3)))) := by
  unfold Value.res_main_v64 refY refValues refCodes refClip refScales refScaleOf refAmax refBlocks refW refQ refLow refHigh refS
  rfl

/-- The reference's run, its results by those names. -/
theorem ref_run (ρ : Dev nD → PrngReg) :
    θ_run defs (onTc (τ := τ) (main (F := F))) ⟨m, fun _ => 0, ρ⟩ fun r => ∀ c : Dev nD,
      r.2.mem ((c.tc : Thread nD τ).loc main_v64)
        = refY (refValues (refCodes (m ((c.tc : Thread nD τ).loc main_arg0))) (refScales (m ((c.tc : Thread nD τ).loc main_arg0))))
          (refW (refQ (refLow (m ((c.tc : Thread nD τ).loc main_arg1))) (refHigh (m ((c.tc : Thread nD τ).loc main_arg2))))
            (refS (Value.reg_main_v23 m c) (m ((c.tc : Thread nD τ).loc main_arg3))))
      ∧ r.2.mem ((c.tc : Thread nD τ).loc main_v65) = shapeCast S5x256x2560 (refCodes (m ((c.tc : Thread nD τ).loc main_arg0))) shapeCasts_S5x256x10x256_S5x256x2560
      ∧ r.2.mem ((c.tc : Thread nD τ).loc main_v8) = refScales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq m c), (h c).2.1.trans (by unfold refCodes refClip refScales refScaleOf refAmax refBlocks; rfl),
    (h c).2.2.1.trans (by unfold refScales refScaleOf refAmax refBlocks; rfl), (h c).2.2.2⟩) (Value.run m ρ)

end Cert.Math
-- ==== Proof.Scalar.lean ====
/- Facts about extended reals and 16-bit float words that the two sides' values meet in: rounding to a code and back,
   what the decoder of a half-precision word computes, and the scale that a weight is multiplied with. -/
module

public import Idealize.ShloMosaic.PureOps.Ideal
public import Idealize.ShloMosaic.PureOps.Ideal.Laws
public import Idealize.ShloMosaic.Lib.IdealHost

@[expose] public section

set_option maxRecDepth 16384

noncomputable section

namespace Cert.Math

open Idealize.ShloMosaic

/-- A rounded number clipped to -127 … 127. -/
def clip (z : EReal) : EReal :=
  min (((127#32).toInt : ℝ) : EReal) (max (((4294967169#32).toInt : ℝ) : EReal) (Ideal.liftRound Ideal.roundHalfEven z))

theorem clip_int (z : EReal) : ∃ k : ℤ, -127 ≤ k ∧ k ≤ 127 ∧ clip z = ((k : ℝ) : EReal) := by
  have e1 : (127#32).toInt = 127 := by decide
  have e2 : (4294967169#32).toInt = -127 := by decide
  unfold clip
  rw [e1, e2]
  induction z with
  | bot => exact ⟨-127, by decide, by decide, by
      rw [Ideal.liftRound_bot, max_eq_left bot_le]; apply min_eq_right; exact_mod_cast (by norm_num : (-127 : ℝ) ≤ 127)⟩
  | top => exact ⟨127, by decide, by decide, by
      rw [Ideal.liftRound_top, max_eq_right le_top]; exact min_eq_left le_top⟩
  | coe r =>
    refine ⟨min 127 (max (-127) (Ideal.roundHalfEven r)), by omega, by omega, ?_⟩
    rw [Ideal.liftRound_coe]
    have hm := EReal.coe_strictMono.monotone
    rw [Int.cast_min, Int.cast_max, hm.map_min, hm.map_max]

theorem fptosi_int (w : ℕ) (hw : 8 ≤ w) (k : ℤ) (h0 : -127 ≤ k) (h1 : k ≤ 127) :
    Ideal.fptosi w (((k : ℝ) : EReal)) = BitVec.ofInt w k := by
  unfold Ideal.fptosi
  rw [Ideal.toIntClamped_coe]
  have hp : (2 : ℕ) ^ 7 ≤ 2 ^ (w - 1) := Nat.pow_le_pow_right (by decide) (by omega)
  generalize 2 ^ (w - 1) = p at hp
  have e : (if (0 : ℝ) ≤ (k : ℝ) then ⌊(k : ℝ)⌋ else ⌈(k : ℝ)⌉) = k := by split <;> simp
  rw [e]
  congr 1
  omega

/-- Rounded to 32 bits and cut to 8, the clipped number is what rounding it to 8 bits gives. -/
theorem code_cut (z : EReal) : (Ideal.fptosi 32 (clip z)).setWidth 8 = Ideal.fptosi 8 (clip z) := by
  obtain ⟨k, h0, h1, e⟩ := clip_int z
  rw [e, fptosi_int 32 (by decide) k h0 h1, fptosi_int 8 (by decide) k h0 h1]
  apply BitVec.eq_of_toNat_eq
  rw [BitVec.toNat_setWidth, BitVec.toNat_ofInt, BitVec.toNat_ofInt]
  omega

/-- The code read back as a number. -/
theorem code_back (z : EReal) : ((((Ideal.fptosi 8 (clip z)).signExtend 32).toInt : ℝ) : EReal) = clip z := by
  obtain ⟨k, h0, h1, e⟩ := clip_int z
  rw [e, fptosi_int 8 (by decide) k h0 h1, BitVec.toInt_signExtend_of_le (by decide), BitVec.toInt_ofInt]
  congr 2
  rw [Int.bmod_eq_of_le] <;> omega

/-! ## The decoder of a half-precision word -/

/-- What the decoder computes from a word, before the factor of a quarter. -/
def decode (w : BitVec 16) : EReal :=
  Scalar.select (IntOp.cmpi .ne (IntOp.andi (w.signExtend 32) 32768#32) 0#32) (Ideal.ofBits .f32 3212836864#32) 1
    * Scalar.select (IntOp.cmpi .eq (IntOp.andi (IntOp.shrsi .vector (w.signExtend 32) 10#32) 31#32) 0#32)
        ((((IntOp.andi (w.signExtend 32) 1023#32).toInt : ℝ) : EReal) * Ideal.ofBits .f32 864026624#32)
        (Scalar.select (IntOp.cmpi .eq (IntOp.andi (IntOp.shrsi .vector (w.signExtend 32) 10#32) 31#32) 31#32)
          (Ideal.ofBits .f32 (IntOp.ori (IntOp.shli .vector (IntOp.andi (w.signExtend 32) 1023#32) 13#32) 2139095040#32))
          (Ideal.ofBits .f32 (IntOp.ori
            (IntOp.shli .vector (IntOp.addi (IntOp.andi (IntOp.shrsi .vector (w.signExtend 32) 10#32) 31#32) 112#32) 23#32)
            (IntOp.shli .vector (IntOp.andi (w.signExtend 32) 1023#32) 13#32))))

theorem field_low (w : BitVec 16) : IntOp.andi (w.signExtend 32) 1023#32 = BitVec.ofNat 32 (w.extractLsb' 0 10).toNat := by
  have : BitVec.ofNat 32 (w.extractLsb' 0 10).toNat = (w.extractLsb' 0 10).setWidth 32 := by
    apply BitVec.eq_of_toNat_eq; simp
  rw [this]
  apply BitVec.eq_of_getLsbD_eq
  intro i hi
  simp only [IntOp.andi, BitVec.getLsbD_and, BitVec.getLsbD_signExtend, BitVec.getLsbD_setWidth, BitVec.getLsbD_extractLsb']
  interval_cases i <;> simp

theorem field_exp (w : BitVec 16) :
    IntOp.andi (IntOp.shrsi .vector (w.signExtend 32) 10#32) 31#32 = BitVec.ofNat 32 (w.extractLsb' 10 5).toNat := by
  have : BitVec.ofNat 32 (w.extractLsb' 10 5).toNat = (w.extractLsb' 10 5).setWidth 32 := by
    apply BitVec.eq_of_toNat_eq; simp
  rw [this]
  have hs : IntOp.shrsi .vector (w.signExtend 32) 10#32 = (w.signExtend 32).sshiftRight 10 := rfl
  rw [hs]
  apply BitVec.eq_of_getLsbD_eq
  intro i hi
  simp only [IntOp.andi, BitVec.getLsbD_and, BitVec.getLsbD_sshiftRight, BitVec.getLsbD_signExtend, BitVec.getLsbD_setWidth, BitVec.getLsbD_extractLsb']
  interval_cases i <;> simp

theorem field_sign (w : BitVec 16) :
    (IntOp.cmpi .ne (IntOp.andi (w.signExtend 32) 32768#32) 0#32) = w.extractLsb' 15 1 := by
  have h : IntOp.andi (w.signExtend 32) 32768#32 = (w.extractLsb' 15 1).setWidth 32 <<< 15 := by
    apply BitVec.eq_of_getLsbD_eq
    intro i hi
    simp only [IntOp.andi, BitVec.getLsbD_and, BitVec.getLsbD_signExtend, BitVec.getLsbD_setWidth, BitVec.getLsbD_extractLsb', BitVec.getLsbD_shiftLeft]
    interval_cases i <;> simp
  rw [h]
  generalize w.extractLsb' 15 1 = b
  revert b; decide

/-- The value of a 32-bit word of sign zero, by its fields. -/
theorem ofBits_fields (e f : ℕ) (he : e < 256) (hf : f < 2 ^ 23) :
    Ideal.ofBits .f32 (BitVec.ofNat 32 (e * 2 ^ 23 + f))
      = if e = 255 then (if f = 0 then ⊤ else ⊥)
        else if e = 0 then ((((f : ℕ) : ℝ) * (2 : ℝ) ^ (-149 : ℤ) : ℝ) : EReal)
        else ((((2 ^ 23 + f : ℕ) : ℝ) * (2 : ℝ) ^ ((e : ℤ) - 150) : ℝ) : EReal) := by
  have n : (BitVec.ofNat 32 (e * 2 ^ 23 + f)).toNat = e * 2 ^ 23 + f := by
    rw [BitVec.toNat_ofNat]; apply Nat.mod_eq_of_lt; omega
  have a1 : ((BitVec.ofNat 32 (e * 2 ^ 23 + f)).extractLsb' (8 + 23) 1 == 1#1) = false := by
    apply beq_false_of_ne
    intro h
    have := congrArg BitVec.toNat h
    rw [BitVec.extractLsb'_toNat, n, Nat.shiftRight_eq_div_pow] at this
    simp only [BitVec.toNat_ofNat] at this
    omega
  have a2 : ((BitVec.ofNat 32 (e * 2 ^ 23 + f)).extractLsb' 23 8).toNat = e := by
    rw [BitVec.extractLsb'_toNat, n, Nat.shiftRight_eq_div_pow]; omega
  have a3 : ((BitVec.ofNat 32 (e * 2 ^ 23 + f)).extractLsb' 0 23).toNat = f := by
    rw [BitVec.extractLsb'_toNat, n, Nat.shiftRight_eq_div_pow]; omega
  show Ideal.ieee 8 23 _ = _
  unfold Ideal.ieee
  simp only [a1, a2, a3]
  norm_num
  congr 2
  rw [show (e : ℤ) - 127 - 23 = e - 150 by ring]

theorem word_fields (e f : ℕ) (he : e < 32) (hf : f < 1024) :
    IntOp.ori (IntOp.shli .vector (IntOp.addi (BitVec.ofNat 32 e) 112#32) 23#32) (IntOp.shli .vector (BitVec.ofNat 32 f) 13#32)
      = BitVec.ofNat 32 ((e + 112) * 2 ^ 23 + f * 2 ^ 13) := by
  have h1 : IntOp.shli .vector (IntOp.addi (BitVec.ofNat 32 e) 112#32) 23#32 = (BitVec.ofNat 32 (e + 112)) <<< 23 := by
    rw [BitVec.ofNat_add]; rfl
  have h2 : IntOp.shli .vector (BitVec.ofNat 32 f) 13#32 = (BitVec.ofNat 32 f) <<< 13 := rfl
  rw [h1, h2]
  apply BitVec.eq_of_toNat_eq
  show (_ ||| _ : BitVec 32).toNat = _
  rw [BitVec.toNat_or, BitVec.toNat_shiftLeft, BitVec.toNat_shiftLeft, BitVec.toNat_ofNat, BitVec.toNat_ofNat, BitVec.toNat_ofNat]
  have m1 : ((e + 112) % 2 ^ 32) <<< 23 % 2 ^ 32 = (e + 112) <<< 23 := by
    rw [Nat.shiftLeft_eq, Nat.shiftLeft_eq]; omega
  have m2 : (f % 2 ^ 32) <<< 13 % 2 ^ 32 = f * 2 ^ 13 := by
    rw [Nat.shiftLeft_eq]; omega
  rw [m1, m2, ← Nat.shiftLeft_add_eq_or_of_lt (by omega), Nat.shiftLeft_eq]
  omega

theorem sel_one {α : Type} (a b : α) : Scalar.select 1#1 a b = a := if_pos rfl
theorem sel_zero {α : Type} (a b : α) : Scalar.select 0#1 a b = b := if_neg (by decide)

/-- The decoder computes what the word denotes, for every word that is a number or an infinity. -/
theorem decode_eq (w : BitVec 16) (hn : ¬ ((w.extractLsb' 10 5).toNat = 31 ∧ (w.extractLsb' 0 10).toNat ≠ 0)) :
    decode w = Ideal.ofBits .f16 w := by
  unfold decode
  rw [field_sign, field_low, field_exp]
  show _ = Ideal.ieee 5 10 w
  unfold Ideal.ieee
  dsimp only
  have he : (w.extractLsb' 10 5).toNat < 32 := (w.extractLsb' 10 5).isLt
  have hf : (w.extractLsb' 0 10).toNat < 1024 := (w.extractLsb' 0 10).isLt
  rw [word_fields _ _ he hf]
  have hsg : Scalar.select (w.extractLsb' 15 1) (Ideal.ofBits .f32 3212836864#32) 1
      = (((if (w.extractLsb' (5 + 10) 1 == 1#1) then (-1 : ℝ) else 1 : ℝ)) : EReal) := by
    have h1 : Ideal.ofBits .f32 3212836864#32 = ((-1 : ℝ) : EReal) := by
      simp [Ideal.ofBits, Ideal.ieee, -EReal.coe_mul]; norm_num
    rw [h1]
    show Scalar.select (w.extractLsb' 15 1) _ _ = (((if (w.extractLsb' 15 1 == 1#1) then (-1 : ℝ) else 1 : ℝ)) : EReal)
    generalize w.extractLsb' 15 1 = b
    have hb : b = 0#1 ∨ b = 1#1 := by revert b; decide
    rcases hb with rfl | rfl <;> simp [Scalar.select]
  rw [hsg]
  have hb : (w.extractLsb' (5 + 10) 1 == 1#1) = true ∨ (w.extractLsb' (5 + 10) 1 == 1#1) = false := by
    cases (w.extractLsb' (5 + 10) 1 == 1#1) <;> simp
  generalize (w.extractLsb' (5 + 10) 1 == 1#1) = neg at hb ⊢
  generalize (w.extractLsb' 10 5).toNat = e at he hn ⊢
  generalize (w.extractLsb' 0 10).toNat = f at hf hn ⊢
  have c1 (k : ℕ) (hk : k < 32) : IntOp.cmpi .eq (BitVec.ofNat 32 e) (BitVec.ofNat 32 k) = if e = k then 1#1 else 0#1 := by
    have : (BitVec.ofNat 32 e = BitVec.ofNat 32 k) ↔ e = k := by
      constructor
      · intro h
        have := congrArg BitVec.toNat h
        simp only [BitVec.toNat_ofNat] at this
        omega
      · rintro rfl; rfl
    by_cases h : e = k
    · simp [IntOp.cmpi, h]
    · have hb : (BitVec.ofNat 32 e == BitVec.ofNat 32 k) = false := beq_false_of_ne (fun h' => h (this.mp h'))
      simp [IntOp.cmpi, h, hb]
  rw [show (0#32 : BitVec 32) = BitVec.ofNat 32 0 from rfl, show (31#32 : BitVec 32) = BitVec.ofNat 32 31 from rfl, c1 0 (by decide), c1 31 (by decide)]
  have k1 : Ideal.ofBits .f32 864026624#32 = (((2 : ℝ) ^ (-24 : ℤ) : ℝ) : EReal) := by
    rw [show (864026624#32 : BitVec 32) = BitVec.ofNat 32 (103 * 2 ^ 23 + 0) from rfl, ofBits_fields _ _ (by decide) (by decide)]
    norm_num
  have hi : ((BitVec.ofNat 32 f).toInt : ℝ) = (f : ℝ) := by
    have : (BitVec.ofNat 32 f).toInt = (f : ℤ) := by
      rw [BitVec.toInt_ofNat']; rw [Int.bmod_eq_of_le] <;> omega
    rw [this]; simp
  rw [hi, k1]
  by_cases h0 : e = 0
  · subst h0
    rw [if_pos (show (0 : ℕ) = 0 from rfl), sel_one, if_neg (show ¬ (0 : ℕ) = 2 ^ 5 - 1 by decide), if_pos (show (0 : ℕ) = 0 from rfl), ← EReal.coe_mul, ← EReal.coe_mul]
    congr 1
    rcases hb with rfl | rfl <;> norm_num <;> ring
  by_cases h31 : e = 31
  · subst h31
    have hf0 : f = 0 := by by_contra h; exact hn ⟨rfl, h⟩
    subst hf0
    have k2 : Ideal.ofBits .f32 (IntOp.ori (IntOp.shli .vector (BitVec.ofNat 32 0) 13#32) 2139095040#32) = ⊤ := by
      rw [show IntOp.ori (IntOp.shli .vector (BitVec.ofNat 32 0) 13#32) 2139095040#32 = BitVec.ofNat 32 (255 * 2 ^ 23 + 0) by decide,
        ofBits_fields _ _ (by decide) (by decide)]
      simp
    rw [k2]
    rcases hb with rfl | rfl
    · simp [Scalar.select]
    · simp [Scalar.select]
  · rw [ofBits_fields _ _ (by omega) (by omega)]
    have e1 : ¬ e + 112 = 255 := by omega
    have e2 : ¬ e + 112 = 0 := by omega
    have e3 : ¬ e = 2 ^ 5 - 1 := by omega
    rw [if_neg h0, if_neg h31, if_neg e1, if_neg e2, if_neg e3, if_neg h0, sel_zero, sel_zero, ← EReal.coe_mul]
    congr 1
    push_cast
    norm_num only
    have p : (2 : ℝ) ^ ((e : ℤ) + 112 - 150) = (2 : ℝ) ^ ((e : ℤ) - 25) * (2 : ℝ) ^ (-13 : ℤ) := by
      rw [← zpow_add₀ (by norm_num)]; congr 1; ring
    rw [p, show (e : ℤ) - 15 - 10 = e - 25 by ring]
    rcases hb with rfl | rfl <;> norm_num <;> ring

theorem quarter_lit : Ideal.ofBits .f32 1048576000#32 = (((1 / 4 : ℝ) : ℝ) : EReal) := by
  rw [show (1048576000#32 : BitVec 32) = BitVec.ofNat 32 (125 * 2 ^ 23 + 0) from rfl, ofBits_fields _ _ (by decide) (by decide)]
  norm_num

/-- Four times a code, times a quarter of a scale: the factors cancel whatever the scale is. -/
theorem four_quarters (q s : ℝ) (d : EReal) :
    ((4 * q : ℝ) : EReal) * (d * ((1 / 4 : ℝ) : EReal) * ((s : ℝ) : EReal)) = ((q : ℝ) : EReal) * (d * ((s : ℝ) : EReal)) := by
  have h : ((4 * q : ℝ) : EReal) = ((q : ℝ) : EReal) * ((4 : ℝ) : EReal) := by rw [← EReal.coe_mul, mul_comm]
  have h' : ((4 : ℝ) : EReal) * (d * ((1 / 4 : ℝ) : EReal) * ((s : ℝ) : EReal)) = d * ((s : ℝ) : EReal) := by
    have : ((4 : ℝ) : EReal) * (d * ((1 / 4 : ℝ) : EReal) * ((s : ℝ) : EReal))
        = (((4 : ℝ) : EReal) * ((1 / 4 : ℝ) : EReal)) * (d * ((s : ℝ) : EReal)) := by
      ac_rfl
    rw [this, ← EReal.coe_mul]
    norm_num
  rw [h, mul_assoc, h']

end Cert.Math
-- ==== Proof.Bytes.lean ====
/- The bytes that the weights' codes are unpacked from: what the kernel's shifts and masks on words of four bytes do to
   each byte, and what the reference's shifts and masks on the widened byte do. -/
module

public import proofs.«01_k».proof.Proof.Pieces
public import Idealize.ShloMosaic.Lib.BitcastFour
public import Idealize.ShloMosaic.Lib.Pipeline.Value
public import Idealize.ShloMosaic.PureOps.Ideal

@[expose] public section

set_option maxRecDepth 16384

noncomputable section

namespace Cert.Math

open Idealize.ShloMosaic
open Cert.KernelIdeal Cert.KernelIdeal.Gen Cert.KernelIdeal.Hand

/-- Field `f`'s nibble of a byte of low bits. -/
def nib (f : Fin 4) (a : BitVec 8) : BitVec 8 := (a >>> (4 * (f.val / 2))) &&& 15#8
/-- Field `f`'s two bits of a byte of high bits. -/
def two (f : Fin 4) (b : BitVec 8) : BitVec 8 := (b >>> (2 * f.val)) &&& 3#8

/-- The code less 32. -/
def code (f : Fin 4) (a b : BitVec 8) : ℤ := (nib f a).toNat + 16 * (two f b).toNat - 32

theorem nib_lt (f : Fin 4) (a : BitVec 8) : (nib f a).toNat < 16 := by
  unfold nib; rw [BitVec.toNat_and]; exact Nat.lt_of_le_of_lt Nat.and_le_right (by decide)
theorem two_lt (f : Fin 4) (b : BitVec 8) : (two f b).toNat < 4 := by
  unfold two; rw [BitVec.toNat_and]; exact Nat.lt_of_le_of_lt Nat.and_le_right (by decide)

theorem byte_value (n p : BitVec 8) (hn : n.toNat < 16) (hp : p.toNat < 4) :
    ((n <<< 2) ||| ((p ^^^ 2#8) <<< 6)).toInt = 4 * ((n.toNat : ℤ) + 16 * p.toNat - 32) := by
  have h : ∀ i : Fin 16, ∀ j : Fin 4, ((BitVec.ofNat 8 i.val <<< 2) ||| ((BitVec.ofNat 8 j.val ^^^ 2#8) <<< 6)).toInt = 4 * ((i.val : ℤ) + 16 * j.val - 32) := by decide
  have := h ⟨n.toNat, hn⟩ ⟨p.toNat, hp⟩
  rwa [BitVec.ofNat_toNat, BitVec.ofNat_toNat, BitVec.setWidth_eq, BitVec.setWidth_eq] at this

theorem word_value (n p : BitVec 8) (hn : n.toNat < 16) (hp : p.toNat < 4) :
    ((n.setWidth 32) ||| ((p.setWidth 32) <<< 4)).toInt = (n.toNat : ℤ) + 16 * p.toNat := by
  have h : ∀ i : Fin 16, ∀ j : Fin 4, (((BitVec.ofNat 8 i.val).setWidth 32) ||| (((BitVec.ofNat 8 j.val).setWidth 32) <<< 4)).toInt = (i.val : ℤ) + 16 * j.val := by decide
  have := h ⟨n.toNat, hn⟩ ⟨p.toNat, hp⟩
  rwa [BitVec.ofNat_toNat, BitVec.ofNat_toNat, BitVec.setWidth_eq, BitVec.setWidth_eq] at this

/-- A bit of a word of four bytes, by the byte it lies in. -/
def IsByte (W : BitVec 32) (k : ℕ) (a : BitVec 8) : Prop := ∀ p < 8, W.getLsbD (8 * k + p) = a.getLsbD p

theorem mask_low : ∀ k : Fin 4, ∀ p : Fin 8, (1010580540#32).getLsbD (8 * k.val + p.val) = (60#8).getLsbD p.val := by decide
theorem mask_high : ∀ k : Fin 4, ∀ p : Fin 8, (3233857728#32).getLsbD (8 * k.val + p.val) = (192#8).getLsbD p.val := by decide
theorem mask_flip : ∀ k : Fin 4, ∀ p : Fin 8, (2863311530#32).getLsbD (8 * k.val + p.val) = (170#8).getLsbD p.val := by decide

theorem IsByte.and {W V : BitVec 32} {k : ℕ} {a b : BitVec 8} (h : IsByte W k a) (h' : IsByte V k b) : IsByte (W &&& V) k (a &&& b) :=
  fun p hp => by rw [BitVec.getLsbD_and, BitVec.getLsbD_and, h p hp, h' p hp]
theorem IsByte.or {W V : BitVec 32} {k : ℕ} {a b : BitVec 8} (h : IsByte W k a) (h' : IsByte V k b) : IsByte (W ||| V) k (a ||| b) :=
  fun p hp => by rw [BitVec.getLsbD_or, BitVec.getLsbD_or, h p hp, h' p hp]
theorem IsByte.xor {W V : BitVec 32} {k : ℕ} {a b : BitVec 8} (h : IsByte W k a) (h' : IsByte V k b) : IsByte (W ^^^ V) k (a ^^^ b) :=
  fun p hp => by rw [BitVec.getLsbD_xor, BitVec.getLsbD_xor, h p hp, h' p hp]

/-- A shift to the left, masked so that no bit comes from the next byte. -/
theorem IsByte.shl {W M : BitVec 32} {k : ℕ} {a c : BitVec 8} (hk : k < 4) (h : IsByte W k a) (hM : IsByte M k c) (n : ℕ)
    (hc : ∀ p < n, c.getLsbD p = false) : IsByte (W <<< n &&& M) k (a <<< n &&& c) := fun p hp => by
  rw [BitVec.getLsbD_and, BitVec.getLsbD_and, hM p hp]
  by_cases hn : p < n
  · rw [hc p hn, Bool.and_false, Bool.and_false]
  · rw [BitVec.getLsbD_shiftLeft, BitVec.getLsbD_shiftLeft, show 8 * k + p - n = 8 * k + (p - n) by omega, h (p - n) (by omega)]
    have e1 : decide (8 * k + p < 32) = true := decide_eq_true (by omega)
    have e3 : decide (p < 8) = true := decide_eq_true hp
    have e4 : decide (p < n) = false := decide_eq_false hn
    rw [e1, e3, e4]
    by_cases h8 : 8 * k + p < n
    · omega
    · rw [decide_eq_false h8]

/-- A shift to the right, masked likewise. -/
theorem IsByte.shr {W M : BitVec 32} {k : ℕ} {a c : BitVec 8} (h : IsByte W k a) (hM : IsByte M k c) (n : ℕ)
    (hc : ∀ p, 8 ≤ p + n → c.getLsbD p = false) : IsByte (W >>> n &&& M) k (a >>> n &&& c) := fun p hp => by
  rw [BitVec.getLsbD_and, BitVec.getLsbD_and, hM p hp]
  by_cases hn : 8 ≤ p + n
  · rw [hc p hn, Bool.and_false, Bool.and_false]
  · rw [BitVec.getLsbD_ushiftRight, BitVec.getLsbD_ushiftRight, show n + (8 * k + p) = 8 * k + (n + p) by omega, h (n + p) (by omega)]

theorem isByte_word (X : Vec Ideal S32x512 .i8) (h : S32x512.Bitcasts 8 S8x512 32) (z : Fin 32) (l : Fin 512) :
    IsByte (bitcast S8x512 32 X h (ValueIdx.ix2 ⟨z.val / 4, by omega⟩ l)) (z.val % 4) (X (ValueIdx.ix2 z l)) := fun p hp => by
  rw [bitcast_8_32_getLsbD_ix2 X h ⟨z.val / 4, by omega⟩ l (8 * (z.val % 4) + p) (by omega) z (by show z.val = 4 * (z.val / 4) + (8 * (z.val % 4) + p) / 8; omega)]
  congr 1
  omega

theorem isByte_back (X : IVec S8x512 32) (h : S8x512.Bitcasts 32 S32x512 8) (z : Fin 32) (l : Fin 512) (a : BitVec 8)
    (ha : IsByte (X (ValueIdx.ix2 ⟨z.val / 4, by omega⟩ l)) (z.val % 4) a) : bitcast S32x512 8 X h (ValueIdx.ix2 z l) = a := by
  apply BitVec.eq_of_getLsbD_eq
  intro p hp
  rw [bitcast_getLsbD X h _ p hp (by decide), ← ha p hp]
  have er : S32x512.row (ValueIdx.ix2 z l) = z.val := rfl
  congr 1
  · congr 1
    funext c
    match c with
    | ⟨0, _⟩ => exact Fin.ext ((h.srcIdx_row _ _ _ ⟨0, Nat.zero_lt_two⟩ rfl).trans (by rw [er]; show (z.val * 8 + p) / 32 = z.val / 4; omega))
    | ⟨1, _⟩ => exact Fin.ext (h.srcIdx_other _ _ _ ⟨1, Nat.one_lt_two⟩ (by show ¬ 1 + 2 = 2; omega))
  · rw [er]; omega

theorem shapeCast_same (X : Vec Ideal S32x512 .i8) : shapeCast S32x512 X shapeCasts_S32x512_S32x512 = X := shapeCast_self X _

theorem isByte_low (f : Fin 4) (L : Vec Ideal S32x512 .i8) (z : Fin 32) (l : Fin 512) :
    IsByte (IntOp.andi (lowField (F := Ideal) f L (ValueIdx.ix2 ⟨z.val / 4, by omega⟩ l)) 1010580540#32) (z.val % 4) (nib f (L (ValueIdx.ix2 z l)) <<< 2) := by
  have hW := isByte_word L bitcasts_S32x512_w8_S8x512_w32 z l
  have hM : IsByte 1010580540#32 (z.val % 4) 60#8 := fun p hp => mask_low ⟨z.val % 4, Nat.mod_lt _ (by decide)⟩ ⟨p, hp⟩
  have c1 : ∀ p < 2, (60#8).getLsbD p = false := by decide
  have c2 : ∀ p, 8 ≤ p + 2 → (60#8).getLsbD p = false := fun p hp => by
    by_cases h : p < 8
    · have : p = 6 ∨ p = 7 := by omega
      rcases this with rfl | rfl <;> decide
    · exact BitVec.getLsbD_of_ge _ _ (by omega)
  have s1 (a : BitVec 8) : a <<< 2 &&& 60#8 = (a >>> 0 &&& 15#8) <<< 2 := by revert a; decide
  have s2 (a : BitVec 8) : a >>> 2 &&& 60#8 = (a >>> 4 &&& 15#8) <<< 2 := by revert a; decide
  have t1 := hW.shl (Nat.mod_lt _ (by decide)) hM 2 c1
  have t2 := hW.shr hM 2 c2
  rw [s1] at t1; rw [s2] at t2
  have e : lowWord (F := Ideal) L = bitcast S8x512 32 L bitcasts_S32x512_w8_S8x512_w32 := by unfold lowWord; rw [shapeCast_same]
  rw [← e] at t1 t2
  fin_cases f
  exacts [t1, t1, t2, t2]

theorem isByte_high (f : Fin 4) (H : Vec Ideal S32x512 .i8) (z : Fin 32) (l : Fin 512) :
    IsByte (IntOp.andi (highField (F := Ideal) f H (ValueIdx.ix2 ⟨z.val / 4, by omega⟩ l)) 3233857728#32) (z.val % 4) ((two f (H (ValueIdx.ix2 z l)) ^^^ 2#8) <<< 6) := by
  have hM : IsByte 3233857728#32 (z.val % 4) 192#8 := fun p hp => mask_high ⟨z.val % 4, Nat.mod_lt _ (by decide)⟩ ⟨p, hp⟩
  have hX : IsByte 2863311530#32 (z.val % 4) 170#8 := fun p hp => mask_flip ⟨z.val % 4, Nat.mod_lt _ (by decide)⟩ ⟨p, hp⟩
  have hW := (isByte_word H bitcasts_S32x512_w8_S8x512_w32 z l).xor hX
  have c (n : ℕ) (hn : n ≤ 6) : ∀ p < n, (192#8).getLsbD p = false := fun p hp => by
    have h6 : ∀ q < 6, (192#8).getLsbD q = false := by decide
    exact h6 p (by omega)
  have hk : z.val % 4 < 4 := Nat.mod_lt _ (by decide)
  have t0 := hW.shl hk hM 6 (c 6 (by decide))
  have t1 := hW.shl hk hM 4 (c 4 (by decide))
  have t2 := hW.shl hk hM 2 (c 2 (by decide))
  have t3 := hW.and hM
  have s0 (a : BitVec 8) : (a ^^^ 170#8) <<< 6 &&& 192#8 = ((a >>> 0 &&& 3#8) ^^^ 2#8) <<< 6 := by revert a; decide
  have s1 (a : BitVec 8) : (a ^^^ 170#8) <<< 4 &&& 192#8 = ((a >>> 2 &&& 3#8) ^^^ 2#8) <<< 6 := by revert a; decide
  have s2 (a : BitVec 8) : (a ^^^ 170#8) <<< 2 &&& 192#8 = ((a >>> 4 &&& 3#8) ^^^ 2#8) <<< 6 := by revert a; decide
  have s3 (a : BitVec 8) : (a ^^^ 170#8) &&& 192#8 = ((a >>> 6 &&& 3#8) ^^^ 2#8) <<< 6 := by revert a; decide
  rw [s0] at t0; rw [s1] at t1; rw [s2] at t2; rw [s3] at t3
  have e : bitcast S8x512 32 H bitcasts_S32x512_w8_S8x512_w32 = bitcast S8x512 32 (shapeCast S32x512 H shapeCasts_S32x512_S32x512) bitcasts_S32x512_w8_S8x512_w32 := by rw [shapeCast_same]
  rw [e] at t0 t1 t2 t3
  fin_cases f
  exacts [t0, t1, t2, t3]

/-- A field's codes at an index: four times the signed six-bit code. -/
theorem fieldCodes_apply (f : Fin 4) (H L : Vec Ideal S32x512 .i8) (z : Fin 32) (l : Fin 512) :
    fieldCodes (F := Ideal) f H L (ValueIdx.ix2 z l) = ((4 * (code f (L (ValueIdx.ix2 z l)) (H (ValueIdx.ix2 z l)) : ℝ) : ℝ) : EReal) := by
  have hb := (isByte_low f L z l).or (isByte_high f H z l)
  have h := isByte_back (ori (andi (lowField f L) (broadcast S8x512 1010580540#32)) (andi (highField f H) (broadcast S8x512 3233857728#32)))
    bitcasts_S8x512_w32_S32x512_w8 z l ((nib f (L (ValueIdx.ix2 z l)) <<< 2) ||| ((two f (H (ValueIdx.ix2 z l)) ^^^ 2#8) <<< 6)) (fun p hp => hb p hp)
  show (((bitcast S32x512 8 (ori (andi (lowField f L) (broadcast S8x512 1010580540#32)) (andi (highField f H) (broadcast S8x512 3233857728#32)))
    bitcasts_S8x512_w32_S32x512_w8 (ValueIdx.ix2 z l) : BitVec 8).toInt : ℝ) : EReal) = _
  rw [h, byte_value _ _ (nib_lt _ _) (two_lt _ _)]
  unfold code
  push_cast
  rfl

end Cert.Math
-- ==== Proof.Reference.lean ====
/- The reference's terms at an index. -/
module

public import proofs.«01_k».proof.Proof.Terms
public import proofs.«01_k».proof.Proof.Scalar
public import proofs.«01_k».proof.Proof.Bytes
public import Idealize.ShloMosaic.Lib.Pointwise

@[expose] public section

set_option maxRecDepth 16384

noncomputable section

namespace Cert.Math

open Idealize.ShloMosaic
open Cert.ReferenceIdeal Cert.ReferenceIdeal.Gen

/-- The largest magnitude of a row. -/
def amaxOf (g : Fin 256 → EReal) : EReal :=
  Finset.univ.fold max (Ideal.ofBits .f32 4286578688#32) (fun l => FloatOps.absf (F := Ideal) (φ := .f32) (g l))
/-- A row's scale. -/
def scaleOf (g : Fin 256 → EReal) : EReal :=
  if amaxOf g = 0 then 1 else Ideal.div (amaxOf g) (Ideal.ofBits .f32 1123942400#32)

theorem refBlocks_apply (x : FVec Ideal S5x256x2560 .bf16) (a : Fin 5) (s : Fin 256) (n : Fin 10) (l : Fin 256) :
    refBlocks (F := Ideal) x (ix4 a s n l) = x (ix3 a s ⟨n.val * 256 + l.val, by omega⟩) := by
  pointwise [refBlocks]

theorem refAmax_apply (x : FVec Ideal S5x256x10x256 .f32) (a : Fin 5) (s : Fin 256) (n : Fin 10) :
    refAmax (F := Ideal) x (ix3 a s n) = amaxOf (fun l => x (ix4 a s n l)) := by
  pointwise [refAmax]
  rfl

theorem refScaleOf_apply (A : FVec Ideal S5x256x10 .f32) (a : Fin 5) (s : Fin 256) (n : Fin 10) :
    refScaleOf (F := Ideal) A (ix3 a s n) = if A (ix3 a s n) = 0 then 1 else Ideal.div (A (ix3 a s n)) (Ideal.ofBits .f32 1123942400#32) := by
  have one : (id (constant (F := Ideal) S_ .f32 1065353216#32) : FVec Ideal S_ .f32) ix0 = 1 := Ideal.ofBits_one_f32
  pointwise [refScaleOf]
  rw [one]

theorem refScales_apply (x : FVec Ideal S5x256x2560 .bf16) (a : Fin 5) (s : Fin 256) (n : Fin 10) :
    refScales (F := Ideal) x (ix3 a s n) = scaleOf (fun l => x (ix3 a s ⟨n.val * 256 + l.val, by omega⟩)) := by
  unfold refScales scaleOf
  rw [refScaleOf_apply, refAmax_apply]
  simp only [refBlocks_apply]

theorem refClip_apply (x : FVec Ideal S5x256x10x256 .f32) (A : FVec Ideal S5x256x10 .f32) (a : Fin 5) (s : Fin 256) (n : Fin 10) (l : Fin 256) :
    refClip (F := Ideal) x A (ix4 a s n l) = clip (Ideal.div (x (ix4 a s n l)) (A (ix3 a s n))) := by
  pointwise [refClip]
  rfl

theorem refCodes_apply (x : FVec Ideal S5x256x2560 .bf16) (a : Fin 5) (s : Fin 256) (n : Fin 10) (l : Fin 256) :
    refCodes (F := Ideal) x (ix4 a s n l)
      = Ideal.fptosi 8 (clip (Ideal.div (x (ix3 a s ⟨n.val * 256 + l.val, by omega⟩)) (scaleOf (fun l => x (ix3 a s ⟨n.val * 256 + l.val, by omega⟩))))) := by
  have h : refCodes (F := Ideal) x (ix4 a s n l) = (Ideal.fptosi 32 (refClip (refBlocks x) (refScales x) (ix4 a s n l))).setWidth 8 := rfl
  rw [h, refClip_apply, refScales_apply, refBlocks_apply, code_cut]

theorem refValues_apply (x : FVec Ideal S5x256x2560 .bf16) (a : Fin 5) (s : Fin 256) (k : Fin 2560) :
    refValues (F := Ideal) (refCodes x) (refScales x) (ix3 a s k)
      = clip (Ideal.div (x (ix3 a s k)) (scaleOf (fun l => x (ix3 a s ⟨k.val / 256 * 256 + l.val, by omega⟩))))
        * scaleOf (fun l => x (ix3 a s ⟨k.val / 256 * 256 + l.val, by omega⟩)) := by
  have h (C : IVec S5x256x10x256 8) (A : FVec Ideal S5x256x10 .f32) : refValues (F := Ideal) C A (ix3 a s k)
      = ((((C (ix4 a s ⟨k.val / 256, by omega⟩ ⟨k.val % 256, by omega⟩)).signExtend 32).toInt : ℝ) : EReal) * A (ix3 a s ⟨k.val / 256, by omega⟩) := by
    pointwise [refValues]
    rfl
  have e : (⟨k.val / 256 * 256 + k.val % 256, by omega⟩ : Fin 2560) = k := Fin.ext (by show k.val / 256 * 256 + k.val % 256 = k.val; omega)
  rw [h, refCodes_apply, refScales_apply, code_back, e]

theorem refLow_apply (x : IVec S9728x10x2x64 8) (o : Fin 9728) (n : Fin 10) (h : Fin 2) (f : Fin 4) (l : Fin 32) :
    refLow x (ix5 o n h f l) = (nib f (x (ix4 o n h ⟨f.val % 2 * 32 + l.val, by omega⟩))).setWidth 32 := by
  pointwise [refLow]
  generalize x _ = a
  have s0 (a : BitVec 8) : IntOp.andi (IntOp.shrsi ArithUnit.host (BitVec.setWidth 32 a) (IntOp.muli (BitVec.ofNat 32 0) 4#32)) 15#32 = (a >>> 0 &&& 15#8).setWidth 32 := by
    revert a; decide
  have s1 (a : BitVec 8) : IntOp.andi (IntOp.shrsi ArithUnit.host (BitVec.setWidth 32 a) (IntOp.muli (BitVec.ofNat 32 1) 4#32)) 15#32 = (a >>> 4 &&& 15#8).setWidth 32 := by
    revert a; decide
  fin_cases f
  exacts [s0 a, s0 a, s1 a, s1 a]

theorem refHigh_apply (x : IVec S9728x10x2x32 8) (o : Fin 9728) (n : Fin 10) (h : Fin 2) (f : Fin 4) (l : Fin 32) :
    refHigh x (ix5 o n h f l) = (two f (x (ix4 o n h l))).setWidth 32 <<< 4 := by
  pointwise [refHigh]
  generalize x _ = a
  have s (f : Fin 4) (a : BitVec 8) : IntOp.shli ArithUnit.host (IntOp.andi (IntOp.shrsi ArithUnit.host (BitVec.setWidth 32 a) (IntOp.muli (BitVec.ofNat 32 f.val) 2#32)) 3#32) 4#32 = (a >>> (2 * f.val) &&& 3#8).setWidth 32 <<< 4 := by
    revert f a; decide
  exact s f a

theorem thirtytwo : Ideal.ofBits .bf16 16896#16 = ((32 : ℝ) : EReal) := by
  simp [Ideal.ofBits, Ideal.ieee, -EReal.coe_mul]; norm_num

theorem refQ_apply (ql : IVec S9728x10x2x64 8) (qh : IVec S9728x10x2x32 8) (o : Fin 9728) (n : Fin 10) (h : Fin 2) (f : Fin 4) (l : Fin 32) :
    refQ (F := Ideal) (refLow ql) (refHigh qh) (ix5 o n h f l)
      = ((code f (ql (ix4 o n h ⟨f.val % 2 * 32 + l.val, by omega⟩)) (qh (ix4 o n h l)) : ℝ) : EReal) := by
  have e (lo hi : IVec S9728x10x2x4x32 32) : refQ (F := Ideal) lo hi (ix5 o n h f l)
      = ((((lo (ix5 o n h f l) ||| hi (ix5 o n h f l)).toInt : ℝ) : EReal)) - Ideal.ofBits FTy.bf16 16896#16 := by
    pointwise [refQ]
    rfl
  rw [e, refLow_apply, refHigh_apply, word_value _ _ (nib_lt _ _) (two_lt _ _), thirtytwo, ← EReal.coe_sub]
  unfold code
  push_cast
  rfl

theorem refS_apply (d : FVec Ideal S9728x10 .f32) (sc : IVec S9728x10x16 8) (o : Fin 9728) (n : Fin 10) (h : Fin 16) :
    refS (F := Ideal) d sc (ix3 o n h) = d (ix2 o n) * (((sc (ix3 o n h)).toInt : ℝ) : EReal) := by
  have e : refS (F := Ideal) d sc (ix3 o n h) = d (ix2 o n) * ((((sc (ix3 o n h)).signExtend 32).toInt : ℝ) : EReal) := by
    pointwise [refS]
    rfl
  rw [e, BitVec.toInt_signExtend_of_le (by decide)]

theorem refW_apply (q : FVec Ideal S9728x10x2x4x32 .bf16) (s : FVec Ideal S9728x10x16 .bf16) (o : Fin 9728) (k : Fin 2560) :
    refW (F := Ideal) q s (ix2 o k)
      = q (ix5 o ⟨k.val / 256, by omega⟩ ⟨k.val / 128 % 2, by omega⟩ ⟨k.val / 32 % 4, by omega⟩ ⟨k.val / 16 % 2 * 16 + k.val % 16, by omega⟩)
        * s (ix3 o ⟨k.val / 256, by omega⟩ ⟨k.val / 128 % 2 * 8 + k.val / 32 % 4 * 2 + k.val / 16 % 2, by omega⟩) := by
  pointwise [refW]

theorem refY_apply (A : FVec Ideal S5x256x2560 .bf16) (w : FVec Ideal S9728x2560 .bf16) (a : Fin 5) (s : Fin 256) (o : Fin 9728) :
    refY (F := Ideal) A w (ix3 a s o) = ∑ k : Fin 2560, A (ix3 a s k) * w (ix2 o k) := by
  pointwise [refY]

end Cert.Math
-- ==== Proof.Acts.lean ====
/- The kernel's quantized activations at an index. -/
module

public import proofs.«01_k».proof.Proof.Quant
public import proofs.«01_k».proof.Proof.Reference
public import proofs.«01_k».proof.Proof.Launch
public import Idealize.ShloMosaic.Lib.Pointwise

@[expose] public section

set_option maxRecDepth 16384

noncomputable section

namespace Cert.Math

open Idealize.ShloMosaic
open Cert.KernelIdeal Cert.KernelIdeal.Gen Cert.KernelIdeal.Hand

theorem k0_pay3_apply (B : Vec Ideal S256x256 .bf16) (r : Fin 256) : k0_pay3 (F := Ideal) B (ix2 r 0) = scaleOf (fun l => B (ix2 r l)) := by
  pointwise [k0_pay3, k0_pay2]
  rfl

theorem k0_pay4_apply (B : Vec Ideal S256x256 .bf16) (r l : Fin 256) :
    k0_pay4 (F := Ideal) B (ix2 r l) = clip (Ideal.div (B (ix2 r l)) (scaleOf (fun l => B (ix2 r l)))) := by
  rw [← k0_pay3_apply]
  pointwise [k0_pay4, k0_pay2]
  rfl

theorem k0_pay5_apply (B : Vec Ideal S256x256 .bf16) (r l : Fin 256) :
    k0_pay5 (F := Ideal) B (ix2 r l) = Ideal.fptosi 8 (clip (Ideal.div (B (ix2 r l)) (scaleOf (fun l => B (ix2 r l))))) := by
  rw [← k0_pay4_apply]
  pointwise [k0_pay5]
  rfl

theorem k0_pay6_apply (B : Vec Ideal S256x256 .bf16) (r l : Fin 256) :
    k0_pay6 (F := Ideal) B (ix2 r l) = clip (Ideal.div (B (ix2 r l)) (scaleOf (fun l => B (ix2 r l)))) * scaleOf (fun l => B (ix2 r l)) := by
  rw [← k0_pay4_apply, ← k0_pay3_apply]
  pointwise [k0_pay6]

theorem scalePlane_apply (B : Fin 10 → Vec Ideal S256x256 .bf16) (b : Fin 10) (r : Fin 256) :
    scalePlane (F := Ideal) B (ix3 0 b r) = scaleOf (fun l => B b (ix2 r l)) := by
  rw [← k0_pay3_apply]
  pointwise [scalePlane, laneStep]
  fin_cases b <;> simp [IntOp.cmpi, Scalar.select]

end Cert.Math
-- ==== Proof.Arrays.lean ====
/- The blocks that the kernel's windows stage, element by element, in terms of the argument arrays. -/
module

public import proofs.«01_k».proof.Proof.Launch
public import Idealize.ShloMosaic.Lib.Pipeline.ValueKit.Geometry
public import Idealize.ShloMosaic.Lib.StableHlo.ReadAt
public import Idealize.ShloMosaic.Lib.Pointwise

@[expose] public section

set_option maxRecDepth 16384

noncomputable section

namespace Cert.Math

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

theorem acts_array (c : Dev nD) (r : Fin 1280) (k : Fin 2560) : V m c main_v0 (ix2 r k)
    = m ((c.tc : Thread nD τ).loc main_arg0) (ix3 ⟨r.val / 256, by omega⟩ ⟨r.val % 256, by omega⟩ k) := by
  unfold V
  after_reads_at

theorem low_array (c : Dev nD) (r : Fin 1280) (o : Fin 9728) : V m c main_v2 (ix2 r o)
    = m ((c.tc : Thread nD τ).loc main_arg1) (ix4 o ⟨r.val / 128, by omega⟩ ⟨r.val / 64 % 2, by omega⟩ ⟨r.val % 64, by omega⟩) := by
  unfold V
  after_reads_at

theorem high_array (c : Dev nD) (r : Fin 640) (o : Fin 9728) : V m c main_v4 (ix2 r o)
    = m ((c.tc : Thread nD τ).loc main_arg2) (ix4 o ⟨r.val / 64, by omega⟩ ⟨r.val / 32 % 2, by omega⟩ ⟨r.val % 32, by omega⟩) := by
  unfold V
  after_reads_at

theorem scale_array (c : Dev nD) (n : Fin 10) (h : Fin 16) (o : Fin 9728) : V m c main_v5 (ix3 n h o)
    = m ((c.tc : Thread nD τ).loc main_arg3) (ix3 o n h) := by
  unfold V
  after_reads_at

theorem half_array (c : Dev nD) (n : Fin 10) (o : Fin 9728) : V m c main_v6 (ix2 n o)
    = m ((c.tc : Thread nD τ).loc main_arg4) (ix2 o n) := by
  unfold V
  after_reads_at

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, 0, t.val] := (by decide +kernel : ∀ t : Fin grid0.N, _)
theorem index4 : ∀ t : Fin cfg0.N, win0_4.index t = ![0, t.val] := (by decide +kernel : ∀ t : Fin grid0.N, _)

theorem col_lt (t : Fin cfg0.N) (l : Fin 512) : t.val * 512 + l.val < 9728 := by
  have : t.val < 19 := Nat.lt_of_lt_of_eq t.isLt N_0
  omega

/-- The column that lane `l` of point `t`'s block stands for. -/
def col (t : Fin cfg0.N) (l : Fin 512) : Fin 9728 := ⟨t.val * 512 + l.val, col_lt t l⟩

theorem acts_apply' (c : Dev nD) (t : Fin cfg0.N) (r : Fin 1280) (k : Fin 2560) : (iblk m c 0 t : Vec Ideal S1280x2560 .bf16) (ix2 r k)
    = m ((c.tc : Thread nD τ).loc main_arg0) (ix3 ⟨r.val / 256, by omega⟩ ⟨r.val % 256, by omega⟩ k) := by
  rw [← acts_array m c]
  blk_simp [iblk]
  congr 1
  funext a
  fin_cases a <;> exact Fin.ext (by blk_simp [index0]; try simp)

theorem acts_apply (c : Dev nD) (r : Fin 1280) (k : Fin 2560) : acts m c (ix2 r k)
    = m ((c.tc : Thread nD τ).loc main_arg0) (ix3 ⟨r.val / 256, by omega⟩ ⟨r.val % 256, by omega⟩ k) :=
  acts_apply' m c _ r k

theorem low_apply (c : Dev nD) (t : Fin cfg0.N) (r : Fin 1280) (l : Fin 512) : (iblk m c 1 t : Vec Ideal S1280x512 .i8) (ix2 r l)
    = m ((c.tc : Thread nD τ).loc main_arg1) (ix4 (col t l) ⟨r.val / 128, by omega⟩ ⟨r.val / 64 % 2, by omega⟩ ⟨r.val % 64, by omega⟩) := by
  rw [← low_array m c]
  blk_simp [iblk]
  congr 1
  funext a
  fin_cases a <;> exact Fin.ext (by blk_simp [index1]; try simp [col])

theorem high_apply (c : Dev nD) (t : Fin cfg0.N) (r : Fin 640) (l : Fin 512) : (iblk m c 2 t : Vec Ideal S640x512 .i8) (ix2 r l)
    = m ((c.tc : Thread nD τ).loc main_arg2) (ix4 (col t l) ⟨r.val / 64, by omega⟩ ⟨r.val / 32 % 2, by omega⟩ ⟨r.val % 32, by omega⟩) := by
  rw [← high_array m c]
  blk_simp [iblk]
  congr 1
  funext a
  fin_cases a <;> exact Fin.ext (by blk_simp [index2]; try simp [col])

theorem scale_apply (c : Dev nD) (t : Fin cfg0.N) (n : Fin 10) (h : Fin 16) (l : Fin 512) : (iblk m c 3 t : Vec Ideal S10x16x512 .i8) (ix3 n h l)
    = m ((c.tc : Thread nD τ).loc main_arg3) (ix3 (col t l) n h) := by
  rw [← scale_array m c]
  blk_simp [iblk]
  congr 1
  funext a
  fin_cases a <;> exact Fin.ext (by blk_simp [index3]; try simp [col])

theorem half_apply (c : Dev nD) (t : Fin cfg0.N) (n : Fin 10) (l : Fin 512) : (iblk m c 4 t : Vec Ideal S10x512 .i16) (ix2 n l)
    = m ((c.tc : Thread nD τ).loc main_arg4) (ix2 (col t l) n) := by
  rw [← half_array m c]
  blk_simp [iblk]
  congr 1
  funext a
  fin_cases a <;> exact Fin.ext (by blk_simp [index4]; try simp [col])

end Cert.Math
-- ==== Proof.Values.lean ====
/- The quantized activations of the two sides: codes, scales and the values that the product reads. -/
module

public import proofs.«01_k».proof.Proof.Acts
public import proofs.«01_k».proof.Proof.Arrays

@[expose] public section

set_option maxRecDepth 16384

noncomputable section

namespace Cert.Math

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

/-- The activations as passed. -/
abbrev xOf (c : Dev nD) : Vec Ideal S5x256x2560 .bf16 := m ((c.tc : Thread nD τ).loc main_arg0)

theorem actBlk_apply (c : Dev nD) (a : Fin 5) (n : Fin 10) (s l : Fin 256) :
    actBlk (acts m c) a n (ix2 s l) = xOf m c (ix3 a s ⟨n.val * 256 + l.val, by omega⟩) := by
  have h : actBlk (acts m c) a n (ix2 s l) = acts m c (ValueIdx.ix2 ⟨256 * a.val + s.val, by omega⟩ ⟨256 * n.val + l.val, by omega⟩) := rfl
  rw [h, ← ix2_eq_valueIdx, acts_apply]
  congr 1
  congr 1 <;> exact Fin.ext (by dsimp only; omega)

theorem codes_apply (c : Dev nD) (a : Fin 5) (s : Fin 256) (k : Fin 2560) :
    codesOf (acts m c) (ix2 ⟨a.val * 256 + s.val, by omega⟩ k)
      = refCodes (F := Ideal) (xOf m c) (ix4 a s ⟨k.val / 256, by omega⟩ ⟨k.val % 256, by omega⟩) := by
  have h : codesOf (acts m c) (ix2 ⟨a.val * 256 + s.val, by omega⟩ k)
      = k0_pay5 (actBlk (acts m c) ⟨(a.val * 256 + s.val) / 256, by omega⟩ ⟨k.val / 256, by omega⟩)
          (ValueIdx.ix2 ⟨(a.val * 256 + s.val) % 256, by omega⟩ ⟨k.val % 256, by omega⟩) := rfl
  have ea : (⟨(a.val * 256 + s.val) / 256, by omega⟩ : Fin 5) = a := Fin.ext (by dsimp only; omega)
  have es : (⟨(a.val * 256 + s.val) % 256, by omega⟩ : Fin 256) = s := Fin.ext (by dsimp only; omega)
  rw [h, ea, es, ← ix2_eq_valueIdx, k0_pay5_apply, refCodes_apply]
  simp only [actBlk_apply]

theorem values_apply (c : Dev nD) (a : Fin 5) (s : Fin 256) (k : Fin 2560) :
    valuesOf (acts m c) (ix2 ⟨a.val * 256 + s.val, by omega⟩ k)
      = refValues (F := Ideal) (refCodes (F := Ideal) (xOf m c)) (refScales (F := Ideal) (xOf m c)) (ix3 a s k) := by
  have h : valuesOf (acts m c) (ix2 ⟨a.val * 256 + s.val, by omega⟩ k)
      = k0_pay6 (actBlk (acts m c) ⟨(a.val * 256 + s.val) / 256, by omega⟩ ⟨k.val / 256, by omega⟩)
          (ValueIdx.ix2 ⟨(a.val * 256 + s.val) % 256, by omega⟩ ⟨k.val % 256, by omega⟩) := rfl
  have ea : (⟨(a.val * 256 + s.val) / 256, by omega⟩ : Fin 5) = a := Fin.ext (by dsimp only; omega)
  have es : (⟨(a.val * 256 + s.val) % 256, by omega⟩ : Fin 256) = s := Fin.ext (by dsimp only; omega)
  have ek : (⟨k.val / 256 * 256 + k.val % 256, by omega⟩ : Fin 2560) = k := Fin.ext (by dsimp only; omega)
  rw [h, ea, es, ← ix2_eq_valueIdx, k0_pay6_apply, refValues_apply]
  simp only [actBlk_apply, ek]

theorem scales_apply (c : Dev nD) (a : Fin 5) (s : Fin 256) (n : Fin 10) :
    scalesOf (acts m c) (ix3 a n s) = refScales (F := Ideal) (xOf m c) (ix3 a s n) := by
  have h : scalesOf (acts m c) (ix3 a n s) = scalePlane (actBlk (acts m c) a) (ValueIdx.ix3 0 n s) := rfl
  rw [h, ← ix3_eq_valueIdx, scalePlane_apply, refScales_apply]
  simp only [actBlk_apply]

/-- The second result: the codes. -/
theorem codes_eq (c : Dev nD) : shapeCast S5x256x2560 (codesOf (acts m c)) shapeCasts_S1280x2560_S5x256x2560
    = shapeCast Cert.ReferenceIdeal.S5x256x2560 (refCodes (F := Ideal) (xOf m c)) Cert.ReferenceIdeal.Gen.shapeCasts_S5x256x10x256_S5x256x2560 := by
  funext i
  rw [eq_ix3 i]
  generalize (i 0 : Fin 5) = a; generalize (i 1 : Fin 256) = s; generalize (i 2 : Fin 2560) = k
  pointwise
  exact codes_apply m c a s k

/-- The third result: the scales. -/
theorem scales_eq (c : Dev nD) : transpose S5x256x10 [0, 2, 1] (scalesOf (acts m c)) transposes_S5x10x256_S5x256x10_0_2_1
    = refScales (F := Ideal) (xOf m c) := by
  funext i
  rw [eq_ix3 i]
  generalize (i 0 : Fin 5) = a; generalize (i 1 : Fin 256) = s; generalize (i 2 : Fin 10) = n
  pointwise
  exact scales_apply m c a s n

end Cert.Math
-- ==== Proof.WeightsValue.lean ====
/- The kernel's weights at an index. -/
module

public import proofs.«01_k».proof.Proof.Weights
public import proofs.«01_k».proof.Proof.Bytes
public import proofs.«01_k».proof.Proof.Scalar
public import Idealize.ShloMosaic.Lib.Pointwise

@[expose] public section

set_option maxRecDepth 16384

noncomputable section

namespace Cert.Math

open Idealize.ShloMosaic
open Cert.KernelIdeal Cert.KernelIdeal.Gen Cert.KernelIdeal.Hand

theorem quarter_apply (D : Vec Ideal S10x512 .i16) (n : Fin 10) (l : Fin 512) :
    quarter (F := Ideal) D (ix2 n l) = decode (D (ix2 n l)) * Ideal.ofBits .f32 1048576000#32 := by
  pointwise [quarter, k0_pay82, k0_pay81, k0_pay80, k0_pay79, k0_pay78, k0_pay77, k0_pay76, k0_pay75, k0_pay74, k0_pay73]
  rfl

theorem pairRows_apply (sb : Fin 10) (D : FVec Ideal S10x512 .f32) (S : Vec Ideal S1x16x512 .i8) (j : Fin 16) (p : Fin 2) (l : Fin 512) :
    pairRows (F := Ideal) sb D S (ix3 j p l) = D (ix2 sb l) * (((S (ix3 0 j l)).toInt : ℝ) : EReal) := by
  pointwise [pairRows]
  split_ifs <;> rfl

theorem scaleRows_apply (S : Vec Ideal S1x2x512 .bf16) (r : Fin 16) (l : Fin 512) (h : S (ix3 0 1 l) = S (ix3 0 0 l)) :
    scaleRows (F := Ideal) S (ix2 r l) = S (ix3 0 0 l) := by
  pointwise [scaleRows]
  split_ifs <;> first | rfl | exact h

theorem blockRows_apply (f : Fin 4) (t : Fin 2) (H L : Vec Ideal S32x512 .i8) (S : Vec Ideal S1x2x512 .bf16) (r : Fin 16) (l : Fin 512)
    (h : S (ix3 0 1 l) = S (ix3 0 0 l)) :
    blockRows (F := Ideal) f t H L S (ix2 r l)
      = ((4 * (code f (L (ix2 ⟨t.val * 16 + r.val, by omega⟩ l)) (H (ix2 ⟨t.val * 16 + r.val, by omega⟩ l)) : ℝ) : ℝ) : EReal) * S (ix3 0 0 l) := by
  rw [← scaleRows_apply S r l h, ix2_eq_valueIdx ⟨t.val * 16 + r.val, by omega⟩ l, ← fieldCodes_apply, ← ix2_eq_valueIdx]
  have e0 : blockRows (F := Ideal) f 0 H L S (ix2 r l) = fieldCodes f H L (ix2 ⟨r.val, by omega⟩ l) * scaleRows S (ix2 r l) := by
    pointwise [blockRows]
  have e1 : blockRows (F := Ideal) f 1 H L S (ix2 r l) = fieldCodes f H L (ix2 ⟨16 + r.val, by omega⟩ l) * scaleRows S (ix2 r l) := by
    pointwise [blockRows]
  fin_cases t
  · refine e0.trans ?_
    congr 3
    exact Fin.ext (by simp)
  · exact e1

theorem scaleBlk_apply (x3 : Vec Ideal S10x16x512 .i8) (x4 : Vec Ideal S10x512 .i16) (hb : Fin 20) (f : Fin 4) (t p : Fin 2) (l : Fin 512)
    (n : Fin 10) (s : Fin 16) (hn : n.val = hb.val / 2) (hs : s.val = hb.val % 2 * 8 + f.val * 2 + t.val) :
    scaleBlk (F := Ideal) (pairsOf x3 x4) hb f t (ix3 0 p l)
      = decode (x4 (ix2 n l)) * Ideal.ofBits .f32 1048576000#32 * (((x3 (ix3 n s l)).toInt : ℝ) : EReal) := by
  have b1 : (hb.val * 8 + f.val * 2 + t.val) / 16 < 10 := by omega
  have b2 : (hb.val * 8 + f.val * 2 + t.val) % 16 < 16 := by omega
  obtain rfl : n = ⟨(hb.val * 8 + f.val * 2 + t.val) / 16, b1⟩ := Fin.ext (by dsimp only; omega)
  obtain rfl : s = ⟨(hb.val * 8 + f.val * 2 + t.val) % 16, b2⟩ := Fin.ext (by dsimp only; omega)
  have h : scaleBlk (F := Ideal) (pairsOf x3 x4) hb f t (ix3 0 p l)
      = pairRows ⟨(hb.val * 8 + f.val * 2 + t.val) / 16, by omega⟩ (quarter x4)
          (fun z => x3 (ValueIdx.ix3 ⟨(hb.val * 8 + f.val * 2 + t.val) / 16, by omega⟩ (z 1) (z 2)))
          (ValueIdx.ix3 ⟨(hb.val * 8 + f.val * 2 + t.val) % 16, by omega⟩ p l) := rfl
  rw [h, ← ix3_eq_valueIdx, pairRows_apply, quarter_apply,
    ix3_eq_valueIdx ⟨(hb.val * 8 + f.val * 2 + t.val) / 16, by omega⟩ ⟨(hb.val * 8 + f.val * 2 + t.val) % 16, by omega⟩ l]
  rfl

/-- A weight: the six-bit code times the scale of its row and block. -/
theorem weightsOf_apply (x1 : Vec Ideal S1280x512 .i8) (x2 : Vec Ideal S640x512 .i8) (x3 : Vec Ideal S10x16x512 .i8) (x4 : Vec Ideal S10x512 .i16)
    (hd : ∀ n l, decode (x4 (ix2 n l)) = Ideal.ofBits .f16 (x4 (ix2 n l))) (k : Fin 2560) (l : Fin 512) :
    weightsOf (F := Ideal) x1 x2 x3 x4 (ix2 k l)
      = ((code ⟨k.val / 32 % 4, by omega⟩
            (x1 (ix2 ⟨k.val / 128 * 64 + k.val / 32 % 4 % 2 * 32 + (k.val / 16 % 2 * 16 + k.val % 16), by omega⟩ l))
            (x2 (ix2 ⟨k.val / 128 * 32 + (k.val / 16 % 2 * 16 + k.val % 16), by omega⟩ l)) : ℝ) : EReal)
        * (Ideal.ofBits .f16 (x4 (ix2 ⟨k.val / 256, by omega⟩ l))
          * (((x3 (ix3 ⟨k.val / 256, by omega⟩ ⟨k.val / 128 % 2 * 8 + k.val / 32 % 4 * 2 + k.val / 16 % 2, by omega⟩ l)).toInt : ℝ) : EReal)) := by
  have ef : (⟨k.val % 128 / 32, by omega⟩ : Fin 4) = ⟨k.val / 32 % 4, by omega⟩ := Fin.ext (by dsimp only; omega)
  have et : (⟨k.val % 32 / 16, by omega⟩ : Fin 2) = ⟨k.val / 16 % 2, by omega⟩ := Fin.ext (by dsimp only; omega)
  have h : weightsOf (F := Ideal) x1 x2 x3 x4 (ix2 k l)
      = blockRows ⟨k.val % 128 / 32, by omega⟩ ⟨k.val % 32 / 16, by omega⟩ (highBlk x2 ⟨k.val / 128, by omega⟩) (lowBlk x1 ⟨k.val / 128, by omega⟩ ⟨k.val % 128 / 32, by omega⟩)
          (scaleBlk (pairsOf x3 x4) ⟨k.val / 128, by omega⟩ ⟨k.val % 128 / 32, by omega⟩ ⟨k.val % 32 / 16, by omega⟩)
          (ValueIdx.ix2 ⟨k.val % 16, by omega⟩ l) := rfl
  have hS (p : Fin 2) := scaleBlk_apply x3 x4 ⟨k.val / 128, by omega⟩ ⟨k.val / 32 % 4, by omega⟩ ⟨k.val / 16 % 2, by omega⟩ p l
    ⟨k.val / 256, by omega⟩ ⟨k.val / 128 % 2 * 8 + k.val / 32 % 4 * 2 + k.val / 16 % 2, by omega⟩ (by dsimp only; omega) rfl
  rw [h, ef, et, ← ix2_eq_valueIdx, blockRows_apply _ _ _ _ _ _ _ ((hS 1).trans (hS 0).symm), hS 0, quarter_lit, four_quarters, hd]
  have hL (z : Fin 32) : lowBlk (F := Ideal) x1 ⟨k.val / 128, by omega⟩ ⟨k.val / 32 % 4, by omega⟩ (ix2 z l)
      = x1 (ix2 ⟨k.val / 128 * 64 + k.val / 32 % 4 % 2 * 32 + z.val, by omega⟩ l) := by
    rw [ix2_eq_valueIdx ⟨k.val / 128 * 64 + k.val / 32 % 4 % 2 * 32 + z.val, by omega⟩ l]; rfl
  have hH (z : Fin 32) : highBlk (F := Ideal) x2 ⟨k.val / 128, by omega⟩ (ix2 z l) = x2 (ix2 ⟨k.val / 128 * 32 + z.val, by omega⟩ l) := by
    rw [ix2_eq_valueIdx ⟨k.val / 128 * 32 + z.val, by omega⟩ l]; rfl
  rw [hL, hH]

end Cert.Math
-- ==== Proof.Half.lean ====
/- The reference's half-precision scales, and what the precondition says of a word. -/
module

public import proofs.«01_k».proof.Proof.Terms
public import proofs.«01_k».proof.Proof.Scalar
public import proofs.«01_k».proof.Pre_d_is_no_nan
public import Idealize.ShloMosaic.Lib.Pipeline.ValueKit.Acc
public import Idealize.ShloMosaic.Lib.Pipeline.ValueKit.Geometry

@[expose] public section

set_option maxRecDepth 16384

noncomputable section

namespace Cert.Math

section
open Idealize.ShloMosaic Idealize.ShloMosaic.TcCoe Idealize.SL.Sem
open Cert.ReferenceIdeal Cert.ReferenceIdeal.Gen

variable (m : (ℓ : Loc nD τ sig) → Buf (Elt Ideal) ℓ)

theorem half_index0 : ∀ t : Fin cfg0.N, win0_0.index t = ![0, 0] := (by decide +kernel : ∀ t : Fin grid0.N, _)
theorem half_index1 : ∀ t : Fin cfg0.N, win0_1.index t = ![0, 0] := (by decide +kernel : ∀ t : Fin grid0.N, _)

theorem half_value (c : Dev nD) : Value.reg_main_v23 m c = fun i => Ideal.ofBits .f16 (m ((c.tc : Thread nD τ).loc main_arg4) i) := by
  unfold Value.reg_main_v23
  refine (Gen.dats m 0 c).arrAt_eq_of_covers 1 _ (by decide +kernel) fun t hf y => ?_
  blk_simp
  rw [after0_1]
  frame_out
  rw [← V_main_arg4 m c]
  show Ideal.ofBits .f16 (iblk m c 0 t _) = _
  blk_simp [iblk]
  congr 2
end

section
open Idealize.ShloMosaic

theorem pre_facts : Cert.Pre_d_is_no_nan.Facts := ⟨by decide, by decide⟩

/-- A word whose magnitude is at most infinity's is no NaN. -/
theorem word_no_nan (w : BitVec 16) (h : IntOp.cmpi .sle (IntOp.andi (w.signExtend 32) 32767#32) 31744#32 = 1#1) :
    ¬ ((w.extractLsb' 10 5).toNat = 31 ∧ (w.extractLsb' 0 10).toNat ≠ 0) := by
  have e : IntOp.andi (w.signExtend 32) 32767#32 = (w.extractLsb' 0 15).setWidth 32 := by
    apply BitVec.eq_of_getLsbD_eq
    intro i hi
    simp only [IntOp.andi, BitVec.getLsbD_and, BitVec.getLsbD_signExtend, BitVec.getLsbD_setWidth, BitVec.getLsbD_extractLsb']
    interval_cases i <;> simp
  have hle : w.toNat % 32768 ≤ 31744 := by
    rw [e] at h
    have h' : ((w.extractLsb' 0 15).setWidth 32).sle 31744#32 = true := by
      revert h
      show BitVec.ofBool (((w.extractLsb' 0 15).setWidth 32).sle 31744#32) = 1#1 → _
      cases ((w.extractLsb' 0 15).setWidth 32).sle 31744#32 <;> simp
    rw [BitVec.sle_iff_toInt_le, BitVec.toInt_eq_toNat_of_lt (by simp; omega)] at h'
    simp at h'
    omega
  simp [BitVec.extractLsb'_toNat, Nat.shiftRight_eq_div_pow]
  omega

theorem pre_no_nan {x0 x1 x2 x3 x4} (h : @Cert.Pre_d_is_no_nan.fn pre_facts Ideal _ x0 x1 x2 x3 x4 = fun _ => 1#1) (i) :
    ¬ (((x4 i).extractLsb' 10 5).toNat = 31 ∧ ((x4 i).extractLsb' 0 10).toNat ≠ 0) :=
  word_no_nan (x4 i) (congrFun h i)
end

end Cert.Math
-- ==== Proof.Product.lean ====
/- The first result: the product of the quantized activations and the dequantized weights. -/
module

public import proofs.«01_k».proof.Proof.Result
public import proofs.«01_k».proof.Proof.Values
public import proofs.«01_k».proof.Proof.WeightsValue
public import proofs.«01_k».proof.Proof.Half

@[expose] public section

set_option maxRecDepth 16384

noncomputable section

namespace Cert.Math

open Idealize.ShloMosaic Idealize.ShloMosaic.TcCoe Idealize.SL.Sem
open Cert.KernelIdeal Cert.KernelIdeal.Gen Cert.KernelIdeal.Hand

theorem k0_pay1_apply (A : Vec Ideal S1280x2560 .bf16) (W : Vec Ideal S2560x512 .bf16) (r : Fin 1280) (l : Fin 512) :
    k0_pay1 (F := Ideal) A W (ix2 r l) = ∑ k : Fin 2560, A (ix2 r k) * W (ix2 k l) := by
  pointwise [k0_pay1]

variable (m : (ℓ : Loc nD τ sig) → Buf (Elt Ideal) ℓ)

/-- The packed low nibbles as passed. -/
abbrev lowOf (c : Dev nD) : Vec Ideal S9728x10x2x64 .i8 := m ((c.tc : Thread nD τ).loc main_arg1)
/-- The packed high bits as passed. -/
abbrev highOf (c : Dev nD) : Vec Ideal S9728x10x2x32 .i8 := m ((c.tc : Thread nD τ).loc main_arg2)
/-- The integer scales as passed. -/
abbrev scOf (c : Dev nD) : Vec Ideal S9728x10x16 .i8 := m ((c.tc : Thread nD τ).loc main_arg3)
/-- The half-precision words as passed. -/
abbrev halfOf (c : Dev nD) : Vec Ideal S9728x10 .i16 := m ((c.tc : Thread nD τ).loc main_arg4)

/-- The reference's weights. -/
abbrev wOf (c : Dev nD) : FVec Ideal Cert.ReferenceIdeal.S9728x2560 .bf16 :=
  refW (F := Ideal) (refQ (F := Ideal) (refLow (lowOf m c)) (refHigh (highOf m c))) (refS (F := Ideal) (fun i => Ideal.ofBits .f16 (halfOf m c i)) (scOf m c))

/-- A column of the weights of a block is the reference's row. -/
theorem weight_eq (c : Dev nD)
    (hd : ∀ i, ¬ (((halfOf m c i).extractLsb' 10 5).toNat = 31 ∧ ((halfOf m c i).extractLsb' 0 10).toNat ≠ 0))
    (t : Fin cfg0.N) (k : Fin 2560) (l : Fin 512) :
    weightsOf (F := Ideal) (iblk m c 1 t) (iblk m c 2 t) (iblk m c 3 t) (iblk m c 4 t) (ix2 k l) = wOf m c (ix2 (col t l) k) := by
  rw [weightsOf_apply _ _ _ _ (fun n l => decode_eq _ (by rw [half_apply]; exact hd _)), low_apply, high_apply, scale_apply, half_apply]
  unfold wOf
  rw [refW_apply, refQ_apply, refS_apply]
  congr 1
  congr 2
  congr 1
  · congr 1
    congr 1 <;> exact Fin.ext (by dsimp only; omega)
  · congr 1
    congr 1 <;> exact Fin.ext (by dsimp only; omega)

theorem out_apply (c : Dev nD)
    (hd : ∀ i, ¬ (((halfOf m c i).extractLsb' 10 5).toNat = 31 ∧ ((halfOf m c i).extractLsb' 0 10).toNat ≠ 0))
    (a : Fin 5) (s : Fin 256) (o : Fin 9728) :
    outOf m c (ix2 ⟨a.val * 256 + s.val, by omega⟩ o)
      = refY (F := Ideal) (refValues (F := Ideal) (refCodes (F := Ideal) (xOf m c)) (refScales (F := Ideal) (xOf m c))) (wOf m c) (ix3 a s o) := by
  have h : outOf m c (ix2 ⟨a.val * 256 + s.val, by omega⟩ o)
      = k0_pay1 (F := Ideal) (valuesOf (acts m c)) (weightsOf (iblk m c 1 (pointOf o)) (iblk m c 2 (pointOf o)) (iblk m c 3 (pointOf o)) (iblk m c 4 (pointOf o)))
          (ValueIdx.ix2 ⟨a.val * 256 + s.val, by omega⟩ ⟨o.val % 512, by omega⟩) := rfl
  have ho : col (pointOf o) ⟨o.val % 512, by omega⟩ = o := Fin.ext (by show o.val / 512 * 512 + o.val % 512 = o.val; omega)
  refine h.trans ?_
  rw [← ix2_eq_valueIdx, k0_pay1_apply, refY_apply]
  refine Finset.sum_congr rfl fun k _ => ?_
  rw [values_apply, weight_eq m c hd, ho]

/-- The first result. -/
theorem out_eq (c : Dev nD)
    (hd : ∀ i, ¬ (((halfOf m c i).extractLsb' 10 5).toNat = 31 ∧ ((halfOf m c i).extractLsb' 0 10).toNat ≠ 0)) :
    shapeCast S5x256x9728 (outOf m c) shapeCasts_S1280x9728_S5x256x9728
      = refY (F := Ideal) (refValues (F := Ideal) (refCodes (F := Ideal) (xOf m c)) (refScales (F := Ideal) (xOf m c))) (wOf m c) := by
  funext i
  rw [eq_ix3 i]
  generalize (i 0 : Fin 5) = a; generalize (i 1 : Fin 256) = s; generalize (i 2 : Fin 9728) = o
  pointwise
  exact out_apply m c hd a s o

end Cert.Math
-- ==== Proof.lean ====
/- The proof of the certificate's claim: the runs of the three programs and the rewrites between the printed and the
   idealized kernel. -/
module

public import proofs.«01_k».proof.Defs
public import proofs.«01_k».proof.Proof.Launch
public import proofs.«01_k».proof.Proof.Bits.Launch
public import proofs.«01_k».proof.Proof.Product
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem Cert.Kernel

/-- The kernel and the reference end with equal results whenever no half-precision scale is a NaN. -/
theorem equal : @Cert.algebraic_KernelIdeal_ReferenceIdeal_pre_d_is_no_nan Cert.KernelIdeal.Gen.facts Cert.ReferenceIdeal.Gen.facts Cert.Math.pre_facts := by
  intro m g m' g' hpre hargs
  refine ⟨_, _, _, Cert.KernelIdeal.Hand.run_results m g, (θ_run Cert.ReferenceIdeal.defs _ _).mono (fun r h c => ?_) (Cert.Math.ref_run m' g')⟩
  obtain ⟨h0, h1, h2, hr⟩ := h c
  obtain ⟨e0, e1, e2, e3, e4⟩ := hargs c
  refine ⟨h0.trans ?_, h1.trans ?_, h2.trans ?_, hr⟩
  · rw [Cert.Math.half_value, e0, e1, e2, e3, e4]
    exact (Cert.Math.out_eq m c fun i => Cert.Math.pre_no_nan (hpre c) i).symm
  · rw [e0]
    exact (Cert.Math.codes_eq m c).symm
  · rw [e0]
    exact (Cert.Math.scales_eq m c).symm

theorem claim : Cert.Claim := ⟨Cert.Kernel.Gen.facts, Cert.KernelIdeal.Gen.facts, Cert.ReferenceIdeal.Gen.facts, Cert.Math.pre_facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  ⟨IdealRules.bf16_pair.bufferStatement _ _, IdealRules.bf16_pair.halfStatement _,
    IdealRules.bf16_pair.statement _ _, IdealRules.bf16_pair.statement _ _, IdealRules.bf16_pair.statement _ _⟩, equal⟩

end Cert.Proof

end
